-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_exist : Cert.Pre_experts_exist.Facts] (m : (ℓ : Loc Cert.Kernel3.nD Cert.Kernel3.τ Cert.Kernel3.sig) → Buf (Elt Bits) ℓ) : Prop :=
  ∀ c : Dev Cert.Kernel3.nD,
    (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] [hPre_experts_exist : Cert.Pre_experts_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "tiny" .f32 0x00800000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)) (v4 : (c : Dev Cert.KernelIdeal.nD) → Buf (Elt Ideal) ((c.tc : Thread Cert.KernelIdeal.nD Cert.KernelIdeal.τ).loc Cert.KernelIdeal.main_v49_4)) (v5 : (c : Dev Cert.KernelIdeal.nD) → Buf (Elt Ideal) ((c.tc : Thread Cert.KernelIdeal.nD Cert.KernelIdeal.τ).loc Cert.KernelIdeal.main_v49_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_v49_4) = v4 c
          ∧ r.2.mem ((c.tc : Thread Cert.KernelIdeal.nD Cert.KernelIdeal.τ).loc Cert.KernelIdeal.main_v49_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_v146) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  IdealRules.bf16_pair.BufferStatement Cert.Kernel2Ideal.S16384x2x512 Cert.Kernel2Ideal.S16384x1x512
  ∧ IdealRules.bf16_pair.BufferStatement Cert.Kernel2Ideal.S512x2x512 Cert.Kernel2Ideal.S512x1x512
  ∧ IdealRules.bf16_pair.Statement Cert.Kernel2Ideal.S512x2x512 Cert.Kernel2Ideal.S512x1x512
  ∧ IdealRules.bf16_pack.Statement Cert.Kernel2Ideal.S512x512

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v19_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_exist := hPre_experts_exist)
    ∧ quiescent_Kernel3Ideal (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_exist := hPre_experts_exist)
-- ==== Pre_experts_exist.lean ====
abbrev S460 : Shape := ⟨1, ![460]⟩
abbrev S117760x512 : Shape := ⟨2, ![117760, 512]⟩
abbrev S1x64x1024x256 : Shape := ⟨4, ![1, 64, 1024, 256]⟩
abbrev S1x64x256x1024 : Shape := ⟨4, ![1, 64, 256, 1024]⟩
abbrev S_ : Shape := ⟨0, ![]⟩

class Facts : Prop where
  bcast_S_S460 : S_.BroadcastsInDim S460 (![] : Fin 0 → Fin S460.rank)

variable [Facts]

def fn {F : FTy → Type} [FloatOps F] (main_arg0 : IVec S460 32) (main_arg1 : IVec S460 32) (main_arg2 : IVec S117760x512 32) (main_arg3 : FVec F S1x64x1024x256 .f32) (main_arg4 : FVec F S1x64x1024x256 .f32) (main_arg5 : FVec F S1x64x256x1024 .f32) : IVec S460 1 :=
  let main_c : IVec S_ 32 := constantI S_ 32 0#32
  let main_v0 : IVec S460 32 := broadcastInDim S460 ![] bcast_S_S460 main_c
  let main_v1 : IVec S460 1 := cmpi .sge main_arg0 main_v0
  let main_c_0 : IVec S_ 32 := constantI S_ 32 64#32
  let main_v2 : IVec S460 32 := broadcastInDim S460 ![] bcast_S_S460 main_c_0
  let main_v3 : IVec S460 1 := cmpi .slt main_arg0 main_v2
  let main_v4 : IVec S460 1 := andi main_v1 main_v3
  main_v4
-- ==== Kernel.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x1792 : Shape := ⟨3, ![1, 1024, 1792]⟩
abbrev S1x4x512 : Shape := ⟨3, ![1, 4, 512]⟩
abbrev S1x512 : Shape := ⟨2, ![1, 512]⟩
abbrev S1x8x64x64 : Shape := ⟨4, ![1, 8, 64, 64]⟩
abbrev S1x64 : Shape := ⟨2, ![1, 64]⟩
abbrev S1024 : Shape := ⟨1, ![1024]⟩
abbrev S1024x1792 : Shape := ⟨2, ![1024, 1792]⟩
abbrev S1024x1024 : Shape := ⟨2, ![1024, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x256 : Shape := ⟨2, ![1024, 256]⟩
abbrev S4x512 : Shape := ⟨2, ![4, 512]⟩
abbrev S512 : Shape := ⟨1, ![512]⟩
abbrev S8x8 : Shape := ⟨2, ![8, 8]⟩
abbrev S_ : Shape := ⟨0, ![]⟩
abbrev S8x64x64 : Shape := ⟨3, ![8, 64, 64]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S64 : Shape := ⟨1, ![64]⟩
abbrev S2x64 : Shape := ⟨2, ![2, 64]⟩
abbrev S128 : Shape := ⟨1, ![128]⟩
abbrev S1x128 : Shape := ⟨2, ![1, 128]⟩
abbrev S8x8x512 : Shape := ⟨3, ![8, 8, 512]⟩
abbrev S8x1x512 : Shape := ⟨3, ![8, 1, 512]⟩
abbrev S8x2048x512 : Shape := ⟨3, ![8, 2048, 512]⟩
abbrev S8x2048x128 : Shape := ⟨3, ![8, 2048, 128]⟩
abbrev S1x512x1024 : Shape := ⟨3, ![1, 512, 1024]⟩
abbrev S1x1x1024 : Shape := ⟨3, ![1, 1, 1024]⟩
abbrev S1x8x512 : Shape := ⟨3, ![1, 8, 512]⟩
abbrev S1x1x512 : Shape := ⟨3, ![1, 1, 512]⟩
abbrev S1x512x512 : Shape := ⟨3, ![1, 512, 512]⟩
abbrev S1x512x128 : Shape := ⟨3, ![1, 512, 128]⟩
abbrev S8x512 : Shape := ⟨2, ![8, 512]⟩
abbrev S512x1 : Shape := ⟨2, ![512, 1]⟩
abbrev S512x1792 : Shape := ⟨2, ![512, 1792]⟩
abbrev S512x128 : Shape := ⟨2, ![512, 128]⟩
abbrev S504x512 : Shape := ⟨2, ![504, 512]⟩
abbrev S64x8x512 : Shape := ⟨3, ![64, 8, 512]⟩

abbrev nBuf : Space → Nat
  | .hbm => 71
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x1792, .f32⟩
  | .hbm, ⟨5, _⟩ => ⟨S1x4x512, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x8x64x64, .f32⟩
  | .hbm, ⟨10, _⟩ => ⟨S1x512, .f32⟩
  | .hbm, ⟨11, _⟩ => ⟨S1x512, .f32⟩
  | .hbm, ⟨12, _⟩ => ⟨S1x64, .f32⟩
  | .hbm, ⟨13, _⟩ => ⟨S1024, .f32⟩
  | .hbm, ⟨14, _⟩ => ⟨S1x1024, .f32⟩
  | .hbm, ⟨15, _⟩ => ⟨S1024x1792, .f32⟩
  | .hbm, ⟨16, _⟩ => ⟨S1024x1792, .bf16⟩
  | .hbm, ⟨17, _⟩ => ⟨S1024x1024, .bf16⟩
  | .hbm, ⟨18, _⟩ => ⟨S1024x512, .bf16⟩
  | .hbm, ⟨19, _⟩ => ⟨S1024x2x4x64, .bf16⟩
  | .hbm, ⟨20, _⟩ => ⟨S1024x4x2x64, .bf16⟩
  | .hbm, ⟨21, _⟩ => ⟨S1024x512, .bf16⟩
  | .hbm, ⟨22, _⟩ => ⟨S1024x256, .bf16⟩
  | .hbm, ⟨23, _⟩ => ⟨S1024x1792, .bf16⟩
  | .hbm, ⟨24, _⟩ => ⟨S4x512, .f32⟩
  | .hbm, ⟨25, _⟩ => ⟨S512, .f32⟩
  | .hbm, ⟨26, _⟩ => ⟨S1x512, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S8x64x64, .f32⟩
  | .hbm, ⟨35, _⟩ => ⟨S8x64x1x64, .f32⟩
  | .hbm, ⟨36, _⟩ => ⟨S8x1x8x1, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S8x64x64, .f32⟩
  | .hbm, ⟨42, _⟩ => ⟨S8x64x1x64, .f32⟩
  | .hbm, ⟨43, _⟩ => ⟨S8x1x8x1, .f32⟩
  | .hbm, ⟨44, _⟩ => ⟨S8x64x8x64, .f32⟩
  | .hbm, ⟨45, _⟩ => ⟨S8x64x8x64, .f32⟩
  | .hbm, ⟨46, _⟩ => ⟨S8x64x8x64, .f32⟩
  | .hbm, ⟨47, _⟩ => ⟨S512x512, .f32⟩
  | .hbm, ⟨48, _⟩ => ⟨S512x1024, .f32⟩
  | .hbm, ⟨49, _⟩ => ⟨S512x1024, .bf16⟩
  | .hbm, ⟨50, _⟩ => ⟨S512, .f32⟩
  | .hbm, ⟨51, _⟩ => ⟨S512, .f32⟩
  | .hbm, ⟨52, _⟩ => ⟨S1024, .f32⟩
  | .hbm, ⟨53, _⟩ => ⟨S1x1024, .f32⟩
  | .hbm, ⟨54, _⟩ => ⟨S512, .f32⟩
  | .hbm, ⟨55, _⟩ => ⟨S1x512, .f32⟩
  | .hbm, ⟨56, _⟩ => ⟨S64, .f32⟩
  | .hbm, ⟨57, _⟩ => ⟨S1x64, .f32⟩
  | .hbm, ⟨58, _⟩ => ⟨S2x64, .f32⟩
  | .hbm, ⟨59, _⟩ => ⟨S128, .f32⟩
  | .hbm, ⟨60, _⟩ => ⟨S1x128, .f32⟩
  | .hbm, ⟨61, _⟩ => ⟨S_, .f32⟩
  | .hbm, ⟨62, _⟩ => ⟨S8x8x512, .f32⟩
  | .hbm, ⟨63, _⟩ => ⟨S_, .f32⟩
  | .hbm, ⟨64, _⟩ => ⟨S8x1x512, .f32⟩
  | .hbm, ⟨65, _⟩ => ⟨S8x2048x512, .f32⟩
  | .hbm, ⟨66, _⟩ => ⟨S8x2048x512, .f32⟩
  | .hbm, ⟨67, _⟩ => ⟨S8x2048x128, .f32⟩
  | .hbm, ⟨68, _⟩ => ⟨S8x2048x128, .f32⟩
  | .hbm, ⟨69, _⟩ => ⟨S8x8x512, .f32⟩
  | .hbm, ⟨70, _⟩ => ⟨S8x1x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S4x512, .f32⟩
  | .local _ .vmem, ⟨9, _⟩ => ⟨S1x512, .f32⟩
  | .local _ .vmem, ⟨10, _⟩ => ⟨S512x1024, .bf16⟩
  | .local _ .vmem, ⟨11, _⟩ => ⟨S1x1024, .f32⟩
  | .local _ .vmem, ⟨12, _⟩ => ⟨S1x512, .f32⟩
  | .local _ .vmem, ⟨13, _⟩ => ⟨S1x128, .f32⟩
  | .local _ .vmem, ⟨14, _⟩ => ⟨S1x8x512, .f32⟩
  | .local _ .vmem, ⟨15, _⟩ => ⟨S1x8x512, .f32⟩
  | .local _ .vmem, ⟨16, _⟩ => ⟨S1x1x512, .f32⟩
  | .local _ .vmem, ⟨17, _⟩ => ⟨S1x1x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S1x8x512, .f32⟩
  | .local _ .vmem, ⟨27, _⟩ => ⟨S1x8x512, .f32⟩
  | .local _ .vmem, ⟨28, _⟩ => ⟨S1x1x512, .f32⟩
  | .local _ .vmem, ⟨29, _⟩ => ⟨S1x1x512, .f32⟩
  | .local _ .vmem, ⟨30, _⟩ => ⟨S8x512, .f32⟩
  | .local _ .vmem, ⟨31, _⟩ => ⟨S1x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst : Ref sig .tc := ⟨.hbm, 61, rfl⟩
abbrev main_v47 : Ref sig .tc := ⟨.hbm, 62, rfl⟩
abbrev main_cst_0 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev main_v49_3 : Ref sig .tc := ⟨.hbm, 68, rfl⟩
abbrev main_v49_4 : Ref sig .tc := ⟨.hbm, 69, rfl⟩
abbrev main_v49_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_98 : BitVec 32 := 3#32
  let v762 : BitVec 1 := Scalar.cmpi .eq arg1 c3_i32_98
  let v763 : BitVec 32 := Scalar.extui v762
  let c0_i32_99 : BitVec 32 := 0#32
  let v764 : BitVec 1 := Scalar.cmpi .ne v763 c0_i32_99
  v764

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== KernelIdeal.lean ====
variable {F : FTy → Type} [FloatOps F] [Named F]
def κ : String → Option EReal := fun
  | "tiny" => some ⊥
  | _ => none
-- ==== ReferenceIdeal.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x1792 : Shape := ⟨3, ![1, 1024, 1792]⟩
abbrev S1x4x512 : Shape := ⟨3, ![1, 4, 512]⟩
abbrev S1x512 : Shape := ⟨2, ![1, 512]⟩
abbrev S1x8x64x64 : Shape := ⟨4, ![1, 8, 64, 64]⟩
abbrev S1x64 : Shape := ⟨2, ![1, 64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1792 : Shape := ⟨2, ![1024, 1792]⟩
abbrev S8x2048x1792 : Shape := ⟨3, ![8, 2048, 1792]⟩
abbrev S8x2048x512 : Shape := ⟨3, ![8, 2048, 512]⟩
abbrev S8x2048x128 : Shape := ⟨3, ![8, 2048, 128]⟩
abbrev S8x3x512 : Shape := ⟨3, ![8, 3, 512]⟩
abbrev S4x512 : Shape := ⟨2, ![4, 512]⟩
abbrev S512 : Shape := ⟨1, ![512]⟩
abbrev S8x2051x512 : Shape := ⟨3, ![8, 2051, 512]⟩
abbrev S1x1x512 : Shape := ⟨3, ![1, 1, 512]⟩
abbrev S8x512 : Shape := ⟨2, ![8, 512]⟩
abbrev S8x64x64 : Shape := ⟨3, ![8, 64, 64]⟩
abbrev S8x2048x8x64 : Shape := ⟨4, ![8, 2048, 8, 64]⟩
abbrev S8x64x8x2048 : Shape := ⟨4, ![8, 64, 8, 2048]⟩
abbrev S2048x8x512 : Shape := ⟨3, ![2048, 8, 512]⟩
abbrev S1x8x512 : Shape := ⟨3, ![1, 8, 512]⟩
abbrev S8x2048x2x64 : Shape := ⟨4, ![8, 2048, 2, 64]⟩
abbrev S64 : Shape := ⟨1, ![64]⟩
abbrev S8x2048x2 : Shape := ⟨3, ![8, 2048, 2]⟩
abbrev S8x2048x2x1 : Shape := ⟨4, ![8, 2048, 2, 1]⟩
abbrev S1x1x1x64 : Shape := ⟨4, ![1, 1, 1, 64]⟩
abbrev S8x2048x2x4x64 : Shape := ⟨5, ![8, 2048, 2, 4, 64]⟩
abbrev S8x2048x4x2x64 : Shape := ⟨5, ![8, 2048, 4, 2, 64]⟩
abbrev S8x8x512 : Shape := ⟨3, ![8, 8, 512]⟩
abbrev S8x1x512 : Shape := ⟨3, ![8, 1, 512]⟩

abbrev nBuf : Space → Nat
  | .hbm => 216
  | .vmem => 0
  | .smem => 0
  | _ => 0

abbrev hbmTy0_0 (i : Nat) : BufTy := match i % 128 with
  | 0 => ⟨S8x2048x1024, .f32⟩
  | 1 => ⟨S8x1x1024, .f32⟩
  | 2 => ⟨S8x1x1024, .f32⟩
  | 3 => ⟨S1x1024, .f32⟩
  | 4 => ⟨S1x1024x1792, .f32⟩
  | 5 => ⟨S1x4x512, .f32⟩
  | 6 => ⟨S1x512, .f32⟩
  | 7 => ⟨S1x8x64x64, .f32⟩
  | 8 => ⟨S1x512, .f32⟩
  | 9 => ⟨S1x8x64x64, .f32⟩
  | 10 => ⟨S1x512, .f32⟩
  | 11 => ⟨S1x512, .f32⟩
  | 12 => ⟨S1x64, .f32⟩
  | 13 => ⟨S1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S_, .f32⟩
  | 31 => ⟨S8x1x1024, .f32⟩
  | 32 => ⟨S8x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1024x1792, .f32⟩
  | 38 => ⟨S8x2048x1792, .f32⟩
  | 39 => ⟨S8x2048x512, .f32⟩
  | 40 => ⟨S8x2048x512, .f32⟩
  | 41 => ⟨S8x2048x512, .f32⟩
  | 42 => ⟨S8x2048x128, .f32⟩
  | 43 => ⟨S8x2048x128, .f32⟩
  | 44 => ⟨S_, .f32⟩
  | 45 => ⟨S8x3x512, .f32⟩
  | 46 => ⟨S4x512, .f32⟩
  | 47 => ⟨S512, .f32⟩
  | 48 => ⟨S8x2051x512, .f32⟩
  | 49 => ⟨S8x2048x512, .f32⟩
  | 50 => ⟨S1x512, .f32⟩
  | 51 => ⟨S512, .f32⟩
  | 52 => ⟨S1x1x512, .f32⟩
  | 53 => ⟨S8x2048x512, .f32⟩
  | 54 => ⟨S8x2048x512, .f32⟩
  | 55 => ⟨S1x1x512, .f32⟩
  | 56 => ⟨S8x2048x512, .f32⟩
  | 57 => ⟨S8x2048x512, .f32⟩
  | 58 => ⟨S8x2048x512, .f32⟩
  | 59 => ⟨S1x512, .f32⟩
  | 60 => ⟨S512, .f32⟩
  | 61 => ⟨S1x1x512, .f32⟩
  | 62 => ⟨S8x2048x512, .f32⟩
  | 63 => ⟨S8x2048x512, .f32⟩
  | 64 => ⟨S8x2048x512, .f32⟩
  | 65 => ⟨S8x2048x512, .f32⟩
  | 66 => ⟨S1x512, .f32⟩
  | 67 => ⟨S512, .f32⟩
  | 68 => ⟨S1x1x512, .f32⟩
  | 69 => ⟨S8x2048x512, .f32⟩
  | 70 => ⟨S8x2048x512, .f32⟩
  | 71 => ⟨S8x2048x512, .f32⟩
  | 72 => ⟨S8x2048x512, .f32⟩
  | 73 => ⟨S1x512, .f32⟩
  | 74 => ⟨S512, .f32⟩
  | 75 => ⟨S1x1x512, .f32⟩
  | 76 => ⟨S8x2048x512, .f32⟩
  | 77 => ⟨S8x2048x512, .f32⟩
  | 78 => ⟨S8x2048x512, .f32⟩
  | 79 => ⟨S_, .f32⟩
  | 80 => ⟨S8x512, .f32⟩
  | 81 => ⟨S8x64x64, .f32⟩
  | 82 => ⟨S512, .f32⟩
  | 83 => ⟨S8x64x64, .f32⟩
  | 84 => ⟨S512, .f32⟩
  | 85 => ⟨S512, .f32⟩
  | 86 => ⟨S8x2048x8x64, .f32⟩
  | 87 => ⟨S8x64x8x2048, .f32⟩
  | 88 => ⟨S8x2048x8x64, .f32⟩
  | 89 => ⟨S8x2048x512, .f32⟩
  | 90 => ⟨S1x1x512, .f32⟩
  | 91 => ⟨S8x2048x512, .f32⟩
  | 92 => ⟨S8x2048x512, .f32⟩
  | 93 => ⟨S8x2048x512, .f32⟩
  | 94 => ⟨S8x2048x512, .f32⟩
  | 95 => ⟨S_, .f32⟩
  | 96 => ⟨S8x2048x512, .f32⟩
  | 97 => ⟨S8x2048x512, .f32⟩
  | 98 => ⟨S_, .f32⟩
  | 99 => ⟨S8x2048x512, .f32⟩
  | 100 => ⟨S8x2048x512, .f32⟩
  | 101 => ⟨S8x64x8x2048, .f32⟩
  | 102 => ⟨S8x2048x8x64, .f32⟩
  | 103 => ⟨S8x2048x512, .f32⟩
  | 104 => ⟨S1x1x512, .f32⟩
  | 105 => ⟨S8x2048x512, .f32⟩
  | 106 => ⟨S8x2048x512, .f32⟩
  | 107 => ⟨S8x2048x512, .f32⟩
  | 108 => ⟨S8x2048x512, .f32⟩
  | 109 => ⟨S_, .f32⟩
  | 110 => ⟨S8x2048x512, .f32⟩
  | 111 => ⟨S8x2048x512, .f32⟩
  | 112 => ⟨S_, .f32⟩
  | 113 => ⟨S8x2048x512, .f32⟩
  | 114 => ⟨S8x2048x512, .f32⟩
  | 115 => ⟨S_, .f32⟩
  | 116 => ⟨S8x2048x512, .f32⟩
  | 117 => ⟨S8x2048x512, .f32⟩
  | 118 => ⟨S512, .f32⟩
  | 119 => ⟨S_, .f32⟩
  | 120 => ⟨S512, .f32⟩
  | 121 => ⟨S512, .f32⟩
  | 122 => ⟨S512, .f32⟩
  | 123 => ⟨S512, .f32⟩
  | 124 => ⟨S512, .i1⟩
  | 125 => ⟨S512, .f32⟩
  | 126 => ⟨S512, .f32⟩
  | 127 => ⟨S512, .f32⟩
  | _ => ⟨S8x2048x1024, .f32⟩

abbrev hbmTy0_1 (i : Nat) : BufTy := match i % 128 with
  | 0 => ⟨S512, .f32⟩
  | 1 => ⟨S512, .f32⟩
  | 2 => ⟨S512, .f32⟩
  | 3 => ⟨S512, .f32⟩
  | 4 => ⟨S512, .f32⟩
  | 5 => ⟨S1x1x512, .f32⟩
  | 6 => ⟨S8x2048x512, .f32⟩
  | 7 => ⟨S8x2048x512, .f32⟩
  | 8 => ⟨S8x2048x512, .f32⟩
  | 9 => ⟨S_, .f32⟩
  | 10 => ⟨S8x2048x512, .f32⟩
  | 11 => ⟨S8x2048x512, .f32⟩
  | 12 => ⟨S8x2048x512, .f32⟩
  | 13 => ⟨S8x2048x512, .f32⟩
  | 14 => ⟨S8x2048x512, .f32⟩
  | 15 => ⟨S8x2048x512, .f32⟩
  | 16 => ⟨S8x2048x512, .f32⟩
  | 17 => ⟨S2048x8x512, .f32⟩
  | 18 => ⟨S2048x8x512, .f32⟩
  | 19 => ⟨S_, .f32⟩
  | 20 => ⟨S2048x8x512, .f32⟩
  | 21 => ⟨S_, .i32⟩
  | 22 => ⟨S2048x8x512, .f32⟩
  | 23 => ⟨S2048x8x512, .f32⟩
  | 24 => ⟨S_, .i32⟩
  | 25 => ⟨S8x512, .f32⟩
  | 26 => ⟨S2048x8x512, .f32⟩
  | 27 => ⟨S_, .i32⟩
  | 28 => ⟨S_, .i1⟩
  | 29 => ⟨S_, .i32⟩
  | 30 => ⟨S_, .i32⟩
  | 31 => ⟨S1x8x512, .f32⟩
  | 32 => ⟨S8x512, .f32⟩
  | 33 => ⟨S_, .i32⟩
  | 34 => ⟨S_, .i32⟩
  | 35 => ⟨S1x8x512, .f32⟩
  | 36 => ⟨S8x512, .f32⟩
  | 37 => ⟨S8x512, .f32⟩
  | 38 => ⟨S8x512, .f32⟩
  | 39 => ⟨S1x8x512, .f32⟩
  | 40 => ⟨S_, .i32⟩
  | 41 => ⟨S_, .i32⟩
  | 42 => ⟨S2048x8x512, .f32⟩
  | 43 => ⟨S_, .i32⟩
  | 44 => ⟨S_, .i32⟩
  | 45 => ⟨S8x2048x512, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S8x2048x512, .f32⟩
  | 52 => ⟨S_, .f32⟩
  | 53 => ⟨S8x2048x512, .f32⟩
  | 54 => ⟨S8x2048x512, .f32⟩
  | 55 => ⟨S8x2048x512, .f32⟩
  | 56 => ⟨S_, .f32⟩
  | 57 => ⟨S8x2048x512, .f32⟩
  | 58 => ⟨S8x2048x512, .f32⟩
  | 59 => ⟨S_, .f32⟩
  | 60 => ⟨S8x2048x512, .f32⟩
  | 61 => ⟨S8x2048x512, .f32⟩
  | 62 => ⟨S8x2048x512, .f32⟩
  | 63 => ⟨S8x2048x512, .f32⟩
  | 64 => ⟨S8x2048x2x64, .f32⟩
  | 65 => ⟨S64, .f32⟩
  | 66 => ⟨S8x2048x2x64, .f32⟩
  | 67 => ⟨S_, .f32⟩
  | 68 => ⟨S8x2048x2, .f32⟩
  | 69 => ⟨S8x2048x2x1, .f32⟩
  | 70 => ⟨S_, .f32⟩
  | 71 => ⟨S8x2048x2x1, .f32⟩
  | 72 => ⟨S8x2048x2x1, .f32⟩
  | 73 => ⟨S_, .f32⟩
  | 74 => ⟨S8x2048x2x1, .f32⟩
  | 75 => ⟨S8x2048x2x1, .f32⟩
  | 76 => ⟨S8x2048x2x1, .f32⟩
  | 77 => ⟨S8x2048x2x64, .f32⟩
  | 78 => ⟨S8x2048x2x64, .f32⟩
  | 79 => ⟨S1x1x1x64, .f32⟩
  | 80 => ⟨S8x2048x2x64, .f32⟩
  | 81 => ⟨S8x2048x2x64, .f32⟩
  | 82 => ⟨S8x2048x128, .f32⟩
  | 83 => ⟨S8x2048x2x4x64, .f32⟩
  | 84 => ⟨S8x2048x4x2x64, .f32⟩
  | 85 => ⟨S8x2048x512, .f32⟩
  | 86 => ⟨S8x8x512, .f32⟩
  | 87 => ⟨S8x1x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_4 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_5 : Ref sig .tc := ⟨.hbm, 95, rfl⟩
abbrev main_v76 : Ref sig .tc := ⟨.hbm, 96, rfl⟩
abbrev main_v77 : Ref sig .tc := ⟨.hbm, 97, rfl⟩
abbrev main_cst_6 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_7 : Ref sig .tc := ⟨.hbm, 109, rfl⟩
abbrev main_v88 : Ref sig .tc := ⟨.hbm, 110, rfl⟩
abbrev main_v89 : Ref sig .tc := ⟨.hbm, 111, rfl⟩
abbrev main_cst_8 : Ref sig .tc := ⟨.hbm, 112, rfl⟩
abbrev main_v90 : Ref sig .tc := ⟨.hbm, 113, rfl⟩
abbrev main_v91 : Ref sig .tc := ⟨.hbm, 114, rfl⟩
abbrev main_cst_9 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_call0_cst : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_v5 : Ref sig .tc := ⟨.hbm, 125, rfl⟩
abbrev main_call0_v6 : Ref sig .tc := ⟨.hbm, 126, rfl⟩
abbrev main_call0_v7 : Ref sig .tc := ⟨.hbm, 127, rfl⟩
abbrev main_call0_v8 : Ref sig .tc := ⟨.hbm, 128, rfl⟩
abbrev main_call0_v9 : Ref sig .tc := ⟨.hbm, 129, rfl⟩
abbrev main_call0_v10 : Ref sig .tc := ⟨.hbm, 130, rfl⟩
abbrev main_call0_v11 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_10 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_11 : Ref sig .tc := ⟨.hbm, 147, rfl⟩
abbrev main_v109 : Ref sig .tc := ⟨.hbm, 148, rfl⟩
abbrev main_c : Ref sig .tc := ⟨.hbm, 149, rfl⟩
abbrev main_v110_0 : Ref sig .tc := ⟨.hbm, 150, rfl⟩
abbrev main_v110_1 : Ref sig .tc := ⟨.hbm, 151, rfl⟩
abbrev main_v110_2 : Ref sig .tc := ⟨.hbm, 152, rfl⟩
abbrev main_v110_3 : Ref sig .tc := ⟨.hbm, 153, rfl⟩
abbrev main_v110_4 : Ref sig .tc := ⟨.hbm, 154, rfl⟩
abbrev main_while0c_c_23 : Ref sig .tc := ⟨.hbm, 155, rfl⟩
abbrev main_while0c_v147 : Ref sig .tc := ⟨.hbm, 156, rfl⟩
abbrev main_while0b_call1_c : Ref sig .tc := ⟨.hbm, 157, rfl⟩
abbrev main_while0b_call1_c_0 : Ref sig .tc := ⟨.hbm, 158, rfl⟩
abbrev main_while0b_call1_v0 : Ref sig .tc := ⟨.hbm, 159, rfl⟩
abbrev main_while0b_v147 : Ref sig .tc := ⟨.hbm, 160, rfl⟩
abbrev main_while0b_call2_c : Ref sig .tc := ⟨.hbm, 161, rfl⟩
abbrev main_while0b_call2_c_0 : Ref sig .tc := ⟨.hbm, 162, rfl⟩
abbrev main_while0b_call2_v0 : Ref sig .tc := ⟨.hbm, 163, rfl⟩
abbrev main_while0b_v148 : Ref sig .tc := ⟨.hbm, 164, rfl⟩
abbrev main_while0b_v149 : Ref sig .tc := ⟨.hbm, 165, rfl⟩
abbrev main_while0b_v150 : Ref sig .tc := ⟨.hbm, 166, rfl⟩
abbrev main_while0b_call3_v0 : Ref sig .tc := ⟨.hbm, 167, rfl⟩
abbrev main_while0b_call3_c : Ref sig .tc := ⟨.hbm, 168, rfl⟩
abbrev main_while0b_call3_c_0 : Ref sig .tc := ⟨.hbm, 169, rfl⟩
abbrev main_while0b_v151 : Ref sig .tc := ⟨.hbm, 170, rfl⟩
abbrev main_while0b_c_23 : Ref sig .tc := ⟨.hbm, 171, rfl⟩
abbrev main_while0b_v152 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_12 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_13 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_14 : Ref sig .tc := ⟨.hbm, 184, rfl⟩
abbrev main_v120 : Ref sig .tc := ⟨.hbm, 185, rfl⟩
abbrev main_v121 : Ref sig .tc := ⟨.hbm, 186, rfl⟩
abbrev main_cst_15 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_16 : Ref sig .tc := ⟨.hbm, 195, rfl⟩
abbrev main_v129 : Ref sig .tc := ⟨.hbm, 196, rfl⟩
abbrev main_v130 : Ref sig .tc := ⟨.hbm, 197, rfl⟩
abbrev main_cst_17 : Ref sig .tc := ⟨.hbm, 198, rfl⟩
abbrev main_v131 : Ref sig .tc := ⟨.hbm, 199, rfl⟩
abbrev main_v132 : Ref sig .tc := ⟨.hbm, 200, rfl⟩
abbrev main_cst_18 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x2048x512 : Shape := ⟨3, ![8, 2048, 512]⟩
abbrev S8x1x1024 : Shape := ⟨3, ![8, 1, 1024]⟩
abbrev S1x1024 : Shape := ⟨2, ![1, 1024]⟩
abbrev S1x1024x1024 : Shape := ⟨3, ![1, 1024, 1024]⟩
abbrev S1x1024x64 : Shape := ⟨3, ![1, 1024, 64]⟩
abbrev S1x64 : Shape := ⟨2, ![1, 64]⟩
abbrev S1024 : Shape := ⟨1, ![1024]⟩
abbrev S1x512x1024 : Shape := ⟨3, ![1, 512, 1024]⟩
abbrev S512x1024 : Shape := ⟨2, ![512, 1024]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S_ : Shape := ⟨0, ![]⟩
abbrev S64x128 : Shape := ⟨2, ![64, 128]⟩
abbrev S16384x1024 : Shape := ⟨2, ![16384, 1024]⟩
abbrev S16384x512 : Shape := ⟨2, ![16384, 512]⟩
abbrev S2x4x64x1024 : Shape := ⟨4, ![2, 4, 64, 1024]⟩
abbrev S4x2x64x1024 : Shape := ⟨4, ![4, 2, 64, 1024]⟩
abbrev S8x16384 : Shape := ⟨2, ![8, 16384]⟩
abbrev S512x512 : Shape := ⟨2, ![512, 512]⟩
abbrev S1x1x1024 : Shape := ⟨3, ![1, 1, 1024]⟩
abbrev S8x512 : Shape := ⟨2, ![8, 512]⟩
abbrev S512 : Shape := ⟨1, ![512]⟩
abbrev S512x1 : Shape := ⟨2, ![512, 1]⟩
abbrev S64x512 : Shape := ⟨2, ![64, 512]⟩
abbrev S1x512 : Shape := ⟨2, ![1, 512]⟩
abbrev S2x512 : Shape := ⟨2, ![2, 512]⟩

abbrev nBuf : Space → Nat
  | .hbm => 36
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S1x1024x1024, .f32⟩
  | .hbm, ⟨8, _⟩ => ⟨S1x1024x64, .f32⟩
  | .hbm, ⟨9, _⟩ => ⟨S1x64, .f32⟩
  | .hbm, ⟨10, _⟩ => ⟨S1024, .f32⟩
  | .hbm, ⟨11, _⟩ => ⟨S1x1024, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024x64, .f32⟩
  | .hbm, ⟨19, _⟩ => ⟨S64x1024, .f32⟩
  | .hbm, ⟨20, _⟩ => ⟨S64, .f32⟩
  | .hbm, ⟨21, _⟩ => ⟨S64x1, .f32⟩
  | .hbm, ⟨22, _⟩ => ⟨S_, .f32⟩
  | .hbm, ⟨23, _⟩ => ⟨S64x128, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S2x4x64x1024, .bf16⟩
  | .hbm, ⟨28, _⟩ => ⟨S4x2x64x1024, .bf16⟩
  | .hbm, ⟨29, _⟩ => ⟨S512x1024, .bf16⟩
  | .hbm, ⟨30, _⟩ => ⟨S16384x1024, .f32⟩
  | .hbm, ⟨31, _⟩ => ⟨S16384x512, .i32⟩
  | .hbm, ⟨32, _⟩ => ⟨S8x16384, .i32⟩
  | .hbm, ⟨33, _⟩ => ⟨S8x16384, .f32⟩
  | .hbm, ⟨34, _⟩ => ⟨S8x16384, .i32⟩
  | .hbm, ⟨35, _⟩ => ⟨S64x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S64x1024, .f32⟩
  | .local _ .vmem, ⟨16, _⟩ => ⟨S64x1, .f32⟩
  | .local _ .vmem, ⟨17, _⟩ => ⟨S64x128, .f32⟩
  | .local _ .vmem, ⟨18, _⟩ => ⟨S512x1024, .f32⟩
  | .local _ .vmem, ⟨19, _⟩ => ⟨S512x1024, .f32⟩
  | .local _ .vmem, ⟨20, _⟩ => ⟨S512x512, .i32⟩
  | .local _ .vmem, ⟨21, _⟩ => ⟨S512x512, .i32⟩
  | .local _ .vmem, ⟨22, _⟩ => ⟨S8x512, .i32⟩
  | .local _ .vmem, ⟨23, _⟩ => ⟨S8x512, .i32⟩
  | .local _ .vmem, ⟨24, _⟩ => ⟨S8x512, .f32⟩
  | .local _ .vmem, ⟨25, _⟩ => ⟨S8x512, .f32⟩
  | .local _ .vmem, ⟨26, _⟩ => ⟨S8x512, .i32⟩
  | .local _ .vmem, ⟨27, _⟩ => ⟨S8x512, .i32⟩
  | .local _ .vmem, ⟨28, _⟩ => ⟨S64x128, .f32⟩
  | .local _ .vmem, ⟨29, _⟩ => ⟨S64x128, .f32⟩
  | .local _ .vmem, ⟨30, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel2Ideal.lean ====
abbrev S8x2048x1024 : Shape := ⟨3, ![8, 2048, 1024]⟩
abbrev S8x2048x512 : Shape := ⟨3, ![8, 2048, 512]⟩
abbrev S8x1x1024 : Shape := ⟨3, ![8, 1, 1024]⟩
abbrev S1x1024 : Shape := ⟨2, ![1, 1024]⟩
abbrev S1x1024x1024 : Shape := ⟨3, ![1, 1024, 1024]⟩
abbrev S1x1024x64 : Shape := ⟨3, ![1, 1024, 64]⟩
abbrev S1x64 : Shape := ⟨2, ![1, 64]⟩
abbrev S1024 : Shape := ⟨1, ![1024]⟩
abbrev S1x512x1024 : Shape := ⟨3, ![1, 512, 1024]⟩
abbrev S512x1024 : Shape := ⟨2, ![512, 1024]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S_ : Shape := ⟨0, ![]⟩
abbrev S64x128 : Shape := ⟨2, ![64, 128]⟩
abbrev S16384x1024 : Shape := ⟨2, ![16384, 1024]⟩
abbrev S16384x512 : Shape := ⟨2, ![16384, 512]⟩
abbrev S2x4x64x1024 : Shape := ⟨4, ![2, 4, 64, 1024]⟩
abbrev S4x2x64x1024 : Shape := ⟨4, ![4, 2, 64, 1024]⟩
abbrev S16384x2x512 : Shape := ⟨3, ![16384, 2, 512]⟩
abbrev S8x16384 : Shape := ⟨2, ![8, 16384]⟩
abbrev S16384x1x512 : Shape := ⟨3, ![16384, 1, 512]⟩
abbrev S512x512 : Shape := ⟨2, ![512, 512]⟩
abbrev S1x1x1024 : Shape := ⟨3, ![1, 1, 1024]⟩
abbrev S512x2x512 : Shape := ⟨3, ![512, 2, 512]⟩
abbrev S512x1x512 : Shape := ⟨3, ![512, 1, 512]⟩
abbrev S8x512 : Shape := ⟨2, ![8, 512]⟩
abbrev S512 : Shape := ⟨1, ![512]⟩
abbrev S512x1 : Shape := ⟨2, ![512, 1]⟩
abbrev S64x512 : Shape := ⟨2, ![64, 512]⟩
abbrev S1x512 : Shape := ⟨2, ![1, 512]⟩
abbrev S2x512 : Shape := ⟨2, ![2, 512]⟩

abbrev nBuf : Space → Nat
  | .hbm => 36
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S1x1024x1024, .f32⟩
  | .hbm, ⟨8, _⟩ => ⟨S1x1024x64, .f32⟩
  | .hbm, ⟨9, _⟩ => ⟨S1x64, .f32⟩
  | .hbm, ⟨10, _⟩ => ⟨S1024, .f32⟩
  | .hbm, ⟨11, _⟩ => ⟨S1x1024, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024x64, .f32⟩
  | .hbm, ⟨19, _⟩ => ⟨S64x1024, .f32⟩
  | .hbm, ⟨20, _⟩ => ⟨S64, .f32⟩
  | .hbm, ⟨21, _⟩ => ⟨S64x1, .f32⟩
  | .hbm, ⟨22, _⟩ => ⟨S_, .f32⟩
  | .hbm, ⟨23, _⟩ => ⟨S64x128, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S2x4x64x1024, .bf16⟩
  | .hbm, ⟨28, _⟩ => ⟨S4x2x64x1024, .bf16⟩
  | .hbm, ⟨29, _⟩ => ⟨S512x1024, .bf16⟩
  | .hbm, ⟨30, _⟩ => ⟨S16384x1024, .f32⟩
  | .hbm, ⟨31, _⟩ => ⟨S16384x2x512, .bf16⟩
  | .hbm, ⟨32, _⟩ => ⟨S8x16384, .i32⟩
  | .hbm, ⟨33, _⟩ => ⟨S8x16384, .f32⟩
  | .hbm, ⟨34, _⟩ => ⟨S8x16384, .i32⟩
  | .hbm, ⟨35, _⟩ => ⟨S64x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S64x1024, .f32⟩
  | .local _ .vmem, ⟨16, _⟩ => ⟨S64x1, .f32⟩
  | .local _ .vmem, ⟨17, _⟩ => ⟨S64x128, .f32⟩
  | .local _ .vmem, ⟨18, _⟩ => ⟨S512x1024, .f32⟩
  | .local _ .vmem, ⟨19, _⟩ => ⟨S512x1024, .f32⟩
  | .local _ .vmem, ⟨20, _⟩ => ⟨S512x2x512, .bf16⟩
  | .local _ .vmem, ⟨21, _⟩ => ⟨S512x2x512, .bf16⟩
  | .local _ .vmem, ⟨22, _⟩ => ⟨S8x512, .i32⟩
  | .local _ .vmem, ⟨23, _⟩ => ⟨S8x512, .i32⟩
  | .local _ .vmem, ⟨24, _⟩ => ⟨S8x512, .f32⟩
  | .local _ .vmem, ⟨25, _⟩ => ⟨S8x512, .f32⟩
  | .local _ .vmem, ⟨26, _⟩ => ⟨S8x512, .i32⟩
  | .local _ .vmem, ⟨27, _⟩ => ⟨S8x512, .i32⟩
  | .local _ .vmem, ⟨28, _⟩ => ⟨S64x128, .f32⟩
  | .local _ .vmem, ⟨29, _⟩ => ⟨S64x128, .f32⟩
  | .local _ .vmem, ⟨30, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S8x2048x1024 : Shape := ⟨3, ![8, 2048, 1024]⟩
abbrev S8x2048x512 : Shape := ⟨3, ![8, 2048, 512]⟩
abbrev S8x1x1024 : Shape := ⟨3, ![8, 1, 1024]⟩
abbrev S1x1024 : Shape := ⟨2, ![1, 1024]⟩
abbrev S1x1024x1024 : Shape := ⟨3, ![1, 1024, 1024]⟩
abbrev S1x1024x64 : Shape := ⟨3, ![1, 1024, 64]⟩
abbrev S1x64 : Shape := ⟨2, ![1, 64]⟩
abbrev S8x2048x4x2x64 : Shape := ⟨5, ![8, 2048, 4, 2, 64]⟩
abbrev S8x2048x2x4x64 : Shape := ⟨5, ![8, 2048, 2, 4, 64]⟩
abbrev S1024x1024 : Shape := ⟨2, ![1024, 1024]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S1x1024x1024, .f32⟩
  | .hbm, ⟨8, _⟩ => ⟨S1x1024x64, .f32⟩
  | .hbm, ⟨9, _⟩ => ⟨S1x64, .f32⟩
  | .hbm, ⟨10, _⟩ => ⟨S8x2048x4x2x64, .f32⟩
  | .hbm, ⟨11, _⟩ => ⟨S8x2048x2x4x64, .f32⟩
  | .hbm, ⟨12, _⟩ => ⟨S8x2048x512, .f32⟩
  | .hbm, ⟨13, _⟩ => ⟨S8x2048x1024, .f32⟩
  | .hbm, ⟨14, _⟩ => ⟨S1024x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel3.lean ====
abbrev S460 : Shape := ⟨1, ![460]⟩
abbrev S117760x512 : Shape := ⟨2, ![117760, 512]⟩
abbrev S1x64x1024x256 : Shape := ⟨4, ![1, 64, 1024, 256]⟩
abbrev S1x64x256x1024 : Shape := ⟨4, ![1, 64, 256, 1024]⟩
abbrev S64x1024x256 : Shape := ⟨3, ![64, 1024, 256]⟩
abbrev S64x256x1024 : Shape := ⟨3, ![64, 256, 1024]⟩
abbrev S117760x1024 : Shape := ⟨2, ![117760, 1024]⟩
abbrev S256x512 : Shape := ⟨2, ![256, 512]⟩
abbrev S1x1024x256 : Shape := ⟨3, ![1, 1024, 256]⟩
abbrev S1 : Shape := ⟨1, ![1]⟩
abbrev S1x256x1024 : Shape := ⟨3, ![1, 256, 1024]⟩
abbrev S256x1024 : Shape := ⟨2, ![256, 1024]⟩
abbrev S1024x256 : Shape := ⟨2, ![1024, 256]⟩
abbrev S512x256 : Shape := ⟨2, ![512, 256]⟩
abbrev S256x256 : Shape := ⟨2, ![256, 256]⟩

abbrev nBuf : Space → Nat
  | .hbm => 8
  | .vmem => 10
  | .smem => 2
  | _ => 0

abbrev bufTy : (tb : Table) → Fin (tcTables nBuf tb) → BufTy
  | .hbm, ⟨0, _⟩ => ⟨S117760x512, .i32⟩
  | .hbm, ⟨1, _⟩ => ⟨S1x64x1024x256, .f32⟩
  | .hbm, ⟨2, _⟩ => ⟨S1x64x1024x256, .f32⟩
  | .hbm, ⟨3, _⟩ => ⟨S1x64x256x1024, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S117760x1024, .f32⟩
  | .local _ .vmem, ⟨0, _⟩ => ⟨S256x512, .i32⟩
  | .local _ .vmem, ⟨1, _⟩ => ⟨S256x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .smem, ⟨0, _⟩ => ⟨S460, .i32⟩
  | .local _ .smem, ⟨1, _⟩ => ⟨S460, .i32⟩
  | _, _ => ⟨S117760x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![460], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S460.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S460) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S460.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S460) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S460.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S460) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S460 : Shape := ⟨1, ![460]⟩
abbrev S117760x512 : Shape := ⟨2, ![117760, 512]⟩
abbrev S1x64x1024x256 : Shape := ⟨4, ![1, 64, 1024, 256]⟩
abbrev S1x64x256x1024 : Shape := ⟨4, ![1, 64, 256, 1024]⟩
abbrev S_ : Shape := ⟨0, ![]⟩
abbrev S117760x1024 : Shape := ⟨2, ![117760, 1024]⟩
abbrev S460x256x1024 : Shape := ⟨3, ![460, 256, 1024]⟩
abbrev S460x256x1 : Shape := ⟨3, ![460, 256, 1]⟩
abbrev S460x1x1 : Shape := ⟨3, ![460, 1, 1]⟩
abbrev S64x1024x256 : Shape := ⟨3, ![64, 1024, 256]⟩
abbrev S460x1 : Shape := ⟨2, ![460, 1]⟩
abbrev S460x1024x256 : Shape := ⟨3, ![460, 1024, 256]⟩
abbrev S460x256x256 : Shape := ⟨3, ![460, 256, 256]⟩
abbrev S64x256x1024 : Shape := ⟨3, ![64, 256, 1024]⟩

abbrev nBuf : Space → Nat
  | .hbm => 48
  | .vmem => 0
  | .smem => 0
  | _ => 0

abbrev bufTy : (tb : Table) → Fin (tcTables nBuf tb) → BufTy
  | .hbm, ⟨0, _⟩ => ⟨S460, .i32⟩
  | .hbm, ⟨1, _⟩ => ⟨S460, .i32⟩
  | .hbm, ⟨2, _⟩ => ⟨S117760x512, .i32⟩
  | .hbm, ⟨3, _⟩ => ⟨S1x64x1024x256, .f32⟩
  | .hbm, ⟨4, _⟩ => ⟨S1x64x1024x256, .f32⟩
  | .hbm, ⟨5, _⟩ => ⟨S1x64x256x1024, .f32⟩
  | .hbm, ⟨6, _⟩ => ⟨S_, .i32⟩
  | .hbm, ⟨7, _⟩ => ⟨S117760x512, .i32⟩
  | .hbm, ⟨8, _⟩ => ⟨S117760x512, .i32⟩
  | .hbm, ⟨9, _⟩ => ⟨S117760x512, .f32⟩
  | .hbm, ⟨10, _⟩ => ⟨S_, .i32⟩
  | .hbm, ⟨11, _⟩ => ⟨S117760x512, .i32⟩
  | .hbm, ⟨12, _⟩ => ⟨S117760x512, .i32⟩
  | .hbm, ⟨13, _⟩ => ⟨S117760x512, .f32⟩
  | .hbm, ⟨14, _⟩ => ⟨S117760x1024, .f32⟩
  | .hbm, ⟨15, _⟩ => ⟨S460x256x1024, .f32⟩
  | .hbm, ⟨16, _⟩ => ⟨S460x256x1, .i32⟩
  | .hbm, ⟨17, _⟩ => ⟨S460x1x1, .i32⟩
  | .hbm, ⟨18, _⟩ => ⟨S460x256x1, .i32⟩
  | .hbm, ⟨19, _⟩ => ⟨S460x256x1, .i1⟩
  | .hbm, ⟨20, _⟩ => ⟨S_, .f32⟩
  | .hbm, ⟨21, _⟩ => ⟨S_, .f32⟩
  | .hbm, ⟨22, _⟩ => ⟨S460x256x1024, .i1⟩
  | .hbm, ⟨23, _⟩ => ⟨S460x256x1024, .f32⟩
  | .hbm, ⟨24, _⟩ => ⟨S460x256x1024, .f32⟩
  | .hbm, ⟨25, _⟩ => ⟨S64x1024x256, .f32⟩
  | .hbm, ⟨26, _⟩ => ⟨S460x1, .i32⟩
  | .hbm, ⟨27, _⟩ => ⟨S460x1024x256, .f32⟩
  | .hbm, ⟨28, _⟩ => ⟨S460x256x256, .f32⟩
  | .hbm, ⟨29, _⟩ => ⟨S64x1024x256, .f32⟩
  | .hbm, ⟨30, _⟩ => ⟨S460x1, .i32⟩
  | .hbm, ⟨31, _⟩ => ⟨S460x1024x256, .f32⟩
  | .hbm, ⟨32, _⟩ => ⟨S460x256x256, .f32⟩
  | .hbm, ⟨33, _⟩ => ⟨S460x256x256, .f32⟩
  | .hbm, ⟨34, _⟩ => ⟨S460x256x256, .f32⟩
  | .hbm, ⟨35, _⟩ => ⟨S_, .f32⟩
  | .hbm, ⟨36, _⟩ => ⟨S460x256x256, .f32⟩
  | .hbm, ⟨37, _⟩ => ⟨S460x256x256, .f32⟩
  | .hbm, ⟨38, _⟩ => ⟨S_, .f32⟩
  | .hbm, ⟨39, _⟩ => ⟨S460x256x256, .f32⟩
  | .hbm, ⟨40, _⟩ => ⟨S460x256x256, .f32⟩
  | .hbm, ⟨41, _⟩ => ⟨S460x256x256, .f32⟩
  | .hbm, ⟨42, _⟩ => ⟨S460x256x256, .f32⟩
  | .hbm, ⟨43, _⟩ => ⟨S64x256x1024, .f32⟩
  | .hbm, ⟨44, _⟩ => ⟨S460x1, .i32⟩
  | .hbm, ⟨45, _⟩ => ⟨S460x256x1024, .f32⟩
  | .hbm, ⟨46, _⟩ => ⟨S460x256x1024, .f32⟩
  | .hbm, ⟨47, _⟩ => ⟨S117760x1024, .f32⟩
  | _, _ => ⟨S460, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Proof.Math.lean ====
/- Facts about the extended reals that join the kernel's arithmetic to the reference's: the logistic function
   written with `tanh`, the soft plus with its own logarithm, `1 - a^2` written with `tanh`, and the linear
   recurrence taken eight rows at a time. Nothing here speaks of a program. -/
module

public import Idealize.ShloMosaic.Lib.Pointwise
public import Mathlib.Analysis.SpecialFunctions.Log.Basic
public import Mathlib.Data.EReal.Operations

@[expose] public section

noncomputable section

open Idealize.ShloMosaic

namespace Cert.Front

/-! ## Words -/

/-- The word of one half. -/
theorem word_half : Ideal.ofBits .f32 0x3F000000#32 = ((1 / 2 : ℝ) : EReal) := by
  simp [Ideal.ofBits, Ideal.ieee, -EReal.coe_mul]; norm_num

/-- The word of minus eight. -/
theorem word_neg8 : Ideal.ofBits .f32 0xC1000000#32 = ((-8 : ℝ) : EReal) := by
  simp [Ideal.ofBits, Ideal.ieee, -EReal.coe_mul]; norm_num

/-- The word of 64. -/
theorem word_64 : Ideal.ofBits .f32 0x42800000#32 = ((64 : ℝ) : EReal) := by
  simp [Ideal.ofBits, Ideal.ieee, -EReal.coe_mul]; norm_num

/-- The word of 1/64. -/
theorem word_64th : Ideal.ofBits .f32 0x3C800000#32 = ((64 : ℝ)⁻¹ : ℝ) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- Division by 64 is the product with its inverse. -/
theorem div_64 (x : EReal) : Ideal.div x ((64 : ℝ) : EReal) = x * ((64 : ℝ)⁻¹ : ℝ) := by
  unfold Ideal.div
  rw [if_neg (by exact_mod_cast (by norm_num : (64 : ℝ) ≠ 0)), EReal.coe_inv]

/-! ## The functions at their kinds of arguments -/

/-- The exponential at −∞. -/
theorem exp_bot : Ideal.exp ⊥ = 0 := rfl
/-- The exponential at ∞. -/
theorem exp_top : Ideal.exp ⊤ = ⊤ := rfl
/-- The exponential of a real. -/
theorem exp_coe (r : ℝ) : Ideal.exp (r : EReal) = (Real.exp r : ℝ) := rfl
/-- The hyperbolic tangent at −∞. -/
theorem tanh_bot : Ideal.tanh ⊥ = -1 := rfl
/-- The hyperbolic tangent at ∞. -/
theorem tanh_top : Ideal.tanh ⊤ = 1 := rfl
/-- The hyperbolic tangent of a real. -/
theorem tanh_coe (r : ℝ) : Ideal.tanh (r : EReal) = (Real.tanh r : ℝ) := rfl
/-- The logarithm of a real. -/
theorem log_coe (r : ℝ) : Ideal.log (r : EReal) = if r ≤ 0 then ⊥ else ((Real.log r : ℝ) : EReal) := rfl
/-- The root of a real. -/
theorem sqrt_coe (r : ℝ) : Ideal.sqrt (r : EReal) = if r < 0 then ⊥ else ((Real.sqrt r : ℝ) : EReal) := rfl
/-- The inverse root of a real. -/
theorem rsqrt_coe (r : ℝ) : Ideal.rsqrt (r : EReal)
    = if r < 0 then ⊥ else if r = 0 then ⊤ else (((Real.sqrt r)⁻¹ : ℝ) : EReal) := rfl

/-- One more than ∞. -/
theorem one_add_top : (1 : EReal) + ⊤ = ⊤ := EReal.coe_add_top 1

/-! ## The logistic function -/

/-- The logistic function is a real number between 0 and 1 at every extended real. -/
theorem logistic_real (x : EReal) : ∃ r : ℝ, 0 ≤ r ∧ r ≤ 1 ∧ Ideal.logistic x = (r : EReal) := by
  unfold Ideal.logistic
  induction x using EReal.rec with
  | bot => exact ⟨0, le_refl _, zero_le_one, by simp [exp_bot, exp_top, Ideal.div, one_add_top]⟩
  | top => exact ⟨1, zero_le_one, le_refl _, by simp [exp_bot, exp_top, Ideal.div]⟩
  | coe x =>
    have hp : 0 < Real.exp (-x) := Real.exp_pos _
    refine ⟨(1 + Real.exp (-x))⁻¹, by positivity, inv_le_one_of_one_le₀ (by linarith), ?_⟩
    have h1 : (1 : EReal) + Ideal.exp (-(x : EReal)) = ((1 + Real.exp (-x) : ℝ) : EReal) := by
      rw [← EReal.coe_neg, exp_coe]; simp
    rw [h1]; unfold Ideal.div
    rw [if_neg (by exact_mod_cast (by positivity : (1 + Real.exp (-x) : ℝ) ≠ 0)), one_mul, EReal.coe_inv]

/-- The hyperbolic tangent through the exponential of twice its argument. -/
theorem tanh_exp (x : ℝ) : Real.tanh x * (Real.exp (2 * x) + 1) = Real.exp (2 * x) - 1 := by
  have h : Real.exp (2 * x) = Real.exp x * Real.exp x := by rw [← Real.exp_add]; congr 1; ring
  rw [Real.tanh_eq_sinh_div_cosh, Real.sinh_eq, Real.cosh_eq, Real.exp_neg, h]
  have hp := Real.exp_pos x
  field_simp

/-- The kernel's sigmoid `0.5 * tanh (0.5 * x) + 0.5` is the logistic function, the two infinities included. -/
theorem sigmoid_eq (x : EReal) :
    ((1 / 2 : ℝ) : EReal) * Ideal.tanh (((1 / 2 : ℝ) : EReal) * x) + ((1 / 2 : ℝ) : EReal) = Ideal.logistic x := by
  unfold Ideal.logistic
  induction x using EReal.rec with
  | bot =>
    rw [EReal.coe_mul_bot_of_pos (by norm_num)]
    simp only [tanh_bot, EReal.neg_bot, exp_top]
    simp only [Ideal.div]
    rw [mul_neg, mul_one, ← EReal.coe_neg, ← EReal.coe_add, one_add_top]
    norm_num
  | top =>
    rw [EReal.coe_mul_top_of_pos (by norm_num)]
    simp only [tanh_top, EReal.neg_top, exp_bot]
    simp only [Ideal.div]
    rw [mul_one, ← EReal.coe_add, add_zero, if_neg one_ne_zero]
    norm_num
  | coe x =>
    have hp : 0 < Real.exp (-x) := Real.exp_pos _
    have h1 : (1 : EReal) + Ideal.exp (-(x : EReal)) = ((1 + Real.exp (-x) : ℝ) : EReal) := by
      rw [← EReal.coe_neg, exp_coe]; simp
    rw [h1]; unfold Ideal.div
    rw [if_neg (by exact_mod_cast (by positivity : (1 + Real.exp (-x) : ℝ) ≠ 0)), one_mul, ← EReal.coe_inv,
      ← EReal.coe_mul, tanh_coe]
    rw [← EReal.coe_mul, ← EReal.coe_add]
    congr 1
    have h := tanh_exp (1 / 2 * x)
    rw [show 2 * (1 / 2 * x) = x by ring] at h
    have hx := Real.exp_pos x
    rw [Real.exp_neg]
    have h2 : Real.tanh (1 / 2 * x) = (Real.exp x - 1) / (Real.exp x + 1) := by
      rw [eq_div_iff (by positivity)]; exact h
    rw [h2]; field_simp; ring

/-! ## The soft plus -/

/-- The kernel's `log1p`: `u = 1 + x`; `x` where `u` is 1, else `log u * x / (u - 1)`. -/
def klog1p (x : EReal) : EReal :=
  if 1 + x = 1 then x else Ideal.div (Ideal.log (1 + x) * x) (if 1 + x = 1 then 1 else 1 + x - 1)

/-- At a real number from 0 on, the kernel's `log1p` is `log (1 + x)`. -/
theorem klog1p_coe (x : ℝ) (hx : 0 ≤ x) : klog1p (x : EReal) = Ideal.log1p (x : EReal) := by
  unfold klog1p Ideal.log1p
  have h1 : (1 : EReal) + (x : EReal) = ((1 + x : ℝ) : EReal) := by simp
  rcases eq_or_lt_of_le hx with h | h
  · subst h; rw [h1, log_coe]; simp
  · have hne : ¬ ((1 + x : ℝ) : EReal) = 1 := by
      intro hh; have : (1 + x : ℝ) = 1 := by exact_mod_cast hh
      linarith
    rw [h1, if_neg hne, if_neg hne]
    have hs : ((1 + x : ℝ) : EReal) - 1 = (x : EReal) := by
      rw [← EReal.coe_one, ← EReal.coe_sub]; congr 1; ring
    rw [hs]
    unfold Ideal.div
    rw [if_neg (by exact_mod_cast h.ne'), log_coe, if_neg (by linarith), ← EReal.coe_mul, ← EReal.coe_inv, ← EReal.coe_mul]
    congr 1; field_simp

/-- The exponential of minus an absolute value is a real number from 0 to 1. -/
theorem exp_neg_abs (z : EReal) : ∃ e : ℝ, 0 ≤ e ∧ Ideal.exp (-(max z (-z))) = (e : EReal) := by
  induction z using EReal.rec with
  | bot => exact ⟨0, le_refl _, by simp [exp_bot, exp_top, exp_coe]⟩
  | top => exact ⟨0, le_refl _, by simp [exp_bot, exp_top, exp_coe]⟩
  | coe x =>
    refine ⟨Real.exp (-(max x (-x))), (Real.exp_pos _).le, ?_⟩
    rw [← EReal.coe_neg, ← EReal.coe_strictMono.monotone.map_max, ← EReal.coe_neg]; rfl

/-- `softplus z = max z 0 + log (1 + e^{-|z|})`. -/
def softplus (z : EReal) : EReal := max z 0 + Ideal.log1p (Ideal.exp (-(max z (-z))))

/-- The kernel's soft plus. -/
theorem ksoftplus_eq (z : EReal) : max z 0 + klog1p (Ideal.exp (-(max z (-z)))) = softplus z := by
  obtain ⟨e, he, h⟩ := exp_neg_abs z
  unfold softplus; rw [h, klog1p_coe e he]

/-- The soft plus is a real number from 0 on, or `⊤`. -/
theorem softplus_nonneg (z : EReal) : 0 ≤ softplus z := by
  obtain ⟨e, he, h⟩ := exp_neg_abs z
  unfold softplus; rw [h]
  refine add_nonneg (le_max_right _ _) ?_
  unfold Ideal.log1p
  have h1 : (1 : EReal) + (e : EReal) = ((1 + e : ℝ) : EReal) := by simp
  rw [h1, log_coe, if_neg (by linarith)]
  exact_mod_cast Real.log_nonneg (by linarith)

/-! ## The decay -/

/-- The logarithm of the decay: `-8 * logistic g * softplus z`. -/
def logDecay (g z : EReal) : EReal := ((-8 : ℝ) : EReal) * Ideal.logistic g * softplus z

/-- It is `⊥` or a real number up to 0. -/
theorem logDecay_cases (g z : EReal) : logDecay g z = ⊥ ∨ ∃ r : ℝ, r ≤ 0 ∧ logDecay g z = (r : EReal) := by
  obtain ⟨r, hr0, -, hr⟩ := logistic_real g
  have hs := softplus_nonneg z
  unfold logDecay; rw [hr, ← EReal.coe_mul]
  generalize softplus z = s at hs
  induction s using EReal.rec with
  | bot => simp at hs
  | top =>
    rcases eq_or_lt_of_le hr0 with h | h
    · subst h; right; exact ⟨0, le_refl _, by simp⟩
    · left; exact EReal.coe_mul_top_of_neg (by linarith)
  | coe s =>
    right; refine ⟨-8 * r * s, ?_, by rw [← EReal.coe_mul]⟩
    have : 0 ≤ s := by exact_mod_cast hs
    nlinarith [mul_nonneg hr0 this]

/-- The exponential of something `⊥` or at most 0 is a real number from 0 to 1. -/
theorem exp_real {l : EReal} (hl : l = ⊥ ∨ ∃ r : ℝ, r ≤ 0 ∧ l = (r : EReal)) :
    ∃ a : ℝ, 0 ≤ a ∧ Ideal.exp l = (a : EReal) := by
  rcases hl with rfl | ⟨r, -, rfl⟩
  · exact ⟨0, le_refl _, rfl⟩
  · exact ⟨Real.exp r, (Real.exp_pos _).le, rfl⟩

/-- `x * rsqrt x = sqrt x` from 0 on; at 0 the product is `0 * ⊤ = 0`. -/
theorem mul_rsqrt (x : ℝ) (hx : 0 ≤ x) : (x : EReal) * Ideal.rsqrt (x : EReal) = Ideal.sqrt (x : EReal) := by
  rw [rsqrt_coe, sqrt_coe]
  rw [if_neg (not_lt.2 hx), if_neg (not_lt.2 hx)]
  split_ifs with h
  · subst h; simp
  · rw [← EReal.coe_mul]; congr 1
    have hs : Real.sqrt x ≠ 0 := by
      rw [Real.sqrt_ne_zero hx]; exact h
    have := Real.mul_self_sqrt hx
    field_simp
    nlinarith

/-- The kernel's factor `om * rsqrt (max om ⊥)` with `om = (0 - tanh l) * (e^l * e^l + 1)` is the reference's
    `sqrt (-(expm1 (2 l)))`, for `l` `⊥` or at most 0. -/
theorem factor_eq {l : EReal} (hl : l = ⊥ ∨ ∃ r : ℝ, r ≤ 0 ∧ l = (r : EReal)) :
    ((0 - Ideal.tanh l) * (Ideal.exp l * Ideal.exp l + 1)) * Ideal.rsqrt (max ((0 - Ideal.tanh l) * (Ideal.exp l * Ideal.exp l + 1)) ⊥)
      = Ideal.sqrt (-(Ideal.expm1 (((2 : ℝ) : EReal) * l))) := by
  rw [max_eq_left bot_le]
  rcases hl with rfl | ⟨r, hr, rfl⟩
  · rw [EReal.coe_mul_bot_of_pos (by norm_num)]
    have h1 : ((0 : EReal) - Ideal.tanh ⊥) * (Ideal.exp ⊥ * Ideal.exp ⊥ + 1) = ((1 : ℝ) : EReal) := by
      simp [tanh_bot, exp_bot]
    have h2 : -(Ideal.expm1 ⊥) = ((1 : ℝ) : EReal) := by simp [Ideal.expm1, exp_bot]
    rw [h1, h2]; exact mul_rsqrt 1 zero_le_one
  · have hE : Real.exp (2 * r) = Real.exp r * Real.exp r := by rw [← Real.exp_add]; congr 1; ring
    have h1 : ((0 : EReal) - Ideal.tanh (r : EReal)) * (Ideal.exp (r : EReal) * Ideal.exp (r : EReal) + 1)
        = ((1 - Real.exp (2 * r) : ℝ) : EReal) := by
      simp only [tanh_coe, exp_coe]
      rw [← EReal.coe_zero, ← EReal.coe_one, ← EReal.coe_sub, ← EReal.coe_mul, ← EReal.coe_add, ← EReal.coe_mul]
      congr 1
      have := tanh_exp r
      rw [hE] at this
      rw [hE]; linarith
    have h2 : -(Ideal.expm1 (((2 : ℝ) : EReal) * (r : EReal))) = ((1 - Real.exp (2 * r) : ℝ) : EReal) := by
      rw [← EReal.coe_mul]
      simp only [Ideal.expm1, exp_coe]
      rw [← EReal.coe_one, ← EReal.coe_sub, ← EReal.coe_neg]; congr 1; ring
    rw [h1, h2]
    exact mul_rsqrt _ (by have : Real.exp (2 * r) ≤ 1 := Real.exp_le_one_iff.2 (by linarith)
                          linarith)

/-! ## The recurrence -/

/-- The linear recurrence `h (n + 1) = a n * h n + b n` from `h0`. -/
def recur (a b : ℕ → EReal) (h0 : EReal) : ℕ → EReal
  | 0 => h0
  | n + 1 => a n * recur a b h0 n + b n

/-- A recurrence that starts from what another one has reached carries that one on. -/
theorem recur_shift (a b : ℕ → EReal) (h0 : EReal) (k n : ℕ) :
    recur (fun j => a (k + j)) (fun j => b (k + j)) (recur a b h0 k) n = recur a b h0 (k + n) := by
  induction n with
  | zero => rfl
  | succ n ih => show _ * _ + _ = _ ; rw [ih]; rfl

/-- A recurrence depends only on the terms below its length. -/
theorem recur_congr {a b a' b' : ℕ → EReal} {h0 h0' : EReal} (n : ℕ) (hh : h0 = h0') (ha : ∀ j < n, a j = a' j)
    (hb : ∀ j < n, b j = b' j) : recur a b h0 n = recur a' b' h0' n := by
  induction n with
  | zero => exact hh
  | succ n ih =>
    show _ * _ + _ = _ * _ + _
    rw [ih (fun j hj => ha j (by omega)) (fun j hj => hb j (by omega)), ha n (by omega), hb n (by omega)]

/-- One doubling step of the scan inside a group of eight rows: the multipliers. -/
def stepA (s : ℕ) (a : ℕ → EReal) : ℕ → EReal := fun r => a r * (if s ≤ r then a (r - s) else 1)

/-- One doubling step of the scan inside a group of eight rows: the addends. -/
def stepB (s : ℕ) (a b : ℕ → EReal) : ℕ → EReal := fun r => a r * (if s ≤ r then b (r - s) else 0) + b r

/-- Three doubling steps (1, 2, 4) over eight rows: the multiplier and the addend of row `r` carry the state from
    before the group to after row `r`. The multipliers are real numbers from 0 on, so they distribute over sums. -/
theorem scan8 (a b : ℕ → EReal) (h0 : EReal) (ha : ∀ j, ∃ x : ℝ, 0 ≤ x ∧ a j = (x : EReal)) (r : ℕ) (hr : r < 8) :
    stepA 4 (stepA 2 (stepA 1 a)) r * h0 + stepB 4 (stepA 2 (stepA 1 a)) (stepB 2 (stepA 1 a) (stepB 1 a b)) r
      = recur a b h0 (r + 1) := by
  have hd : ∀ j (x y : EReal), a j * (x + y) = a j * x + a j * y := by
    intro j x y; obtain ⟨c, hc, h⟩ := ha j; rw [h]; exact EReal.left_distrib_of_nonneg_of_ne_top (by exact_mod_cast hc) (EReal.coe_ne_top c) x y
  have hm : ∀ j (x y : EReal), a j * x * y = a j * (x * y) := fun j x y => mul_assoc _ _ _
  rcases r with _ | _ | _ | _ | _ | _ | _ | _ | r
  all_goals first
    | omega
    | (simp only [stepA, stepB, recur, hd, hm, mul_one, one_mul, mul_zero, zero_add, Nat.reduceAdd, Nat.reduceSub,
        Nat.reduceLeDiff, if_true, if_false, ↓reduceIte, Nat.not_ofNat_le_one, nonpos_iff_eq_zero, one_ne_zero, OfNat.ofNat_ne_zero,
        le_refl, Nat.one_le_ofNat, Nat.sub_self, Nat.zero_add]
       try ac_rfl)

end Cert.Front
-- ==== Proof.Spec.lean ====
/- What the layer's front computes at one position, in plain formulas over the extended reals: both programs are read
   down to these. -/
module

public import proofs.«01_k».proof.Proof.Math

@[expose] public section

noncomputable section

open Idealize.ShloMosaic

namespace Cert.Front

/-- A row of the input, normalised by its root mean square, scaled, modulated and shifted. -/
def normRow (x g sc sh : Fin 1024 → EReal) (k : Fin 1024) : EReal :=
  x k * Ideal.rsqrt (Ideal.div (∑ i, x i * x i) (Ideal.ofBits .f32 0x44800000#32) + Ideal.ofBits .f32 0x358637BD#32)
    * g k * (1 + sc k) + sh k

/-- The causal convolution of width four at one position of one channel. -/
def conv4 (cb c0 c1 c2 c3 x3 x2 x1 x0 : EReal) : EReal := cb + x3 * c0 + x2 * c1 + x1 * c2 + x0 * c3

/-- The state's multiplier at one position: `e` to the logarithm of the decay. -/
def decay (gr z : EReal) : EReal := Ideal.exp (logDecay gr z)

/-- The state's addend at one position. -/
def drive (gr gi z u : EReal) : EReal :=
  Ideal.sqrt (-(Ideal.expm1 (((2 : ℝ) : EReal) * logDecay gr z))) * (Ideal.logistic gi * u)

/-- The gelu, tanh form. -/
def gelu (y : EReal) : EReal :=
  y * (((1 / 2 : ℝ) : EReal) * (1 + Ideal.tanh (Ideal.ofBits .f32 0x3F4C422A#32
    * (y + Ideal.ofBits .f32 0x3D372713#32 * (y * y * y)))))

/-- One entry of a key head, normalised by the root mean square of its 64 entries. -/
def headNorm (k : EReal) (h : Fin 64 → EReal) (g : EReal) : EReal :=
  k * Ideal.rsqrt (Ideal.div (∑ i, h i * h i) ((64 : ℝ) : EReal) + Ideal.ofBits .f32 0x358637BD#32) * g

end Cert.Front
-- ==== Proof.Seq.lean ====
/- The front over the sequences of a batch: the projection, the convolution, the gates, the recurrence over all
   positions, and the six results, of inputs given as functions of their indices. Both programs are read down to these. -/
module

public import proofs.«01_k».proof.Proof.Spec

@[expose] public section

noncomputable section

open Idealize.ShloMosaic

namespace Cert.Front

/-- The inputs by index. -/
structure Inp where
  x : Fin 8 → Fin 2048 → Fin 1024 → EReal
  sh : Fin 8 → Fin 1024 → EReal
  sc : Fin 8 → Fin 1024 → EReal
  g : Fin 1024 → EReal
  w : Fin 1024 → Fin 1792 → EReal
  cw : Fin 4 → Fin 512 → EReal
  cb : Fin 512 → EReal
  ga : Fin 8 → Fin 64 → Fin 64 → EReal
  gab : Fin 512 → EReal
  gx : Fin 8 → Fin 64 → Fin 64 → EReal
  gxb : Fin 512 → EReal
  lam : Fin 512 → EReal
  kn : Fin 64 → EReal

/-- The projection of a normalised row. -/
def proj (I : Inp) (b : Fin 8) (t : Fin 2048) (e : Fin 1792) : EReal :=
  ∑ k, normRow (I.x b t) I.g (I.sc b) (I.sh b) k * I.w k e

/-- The recurrent branch `s` positions before `t`, zero before the sequence. -/
def back (I : Inp) (b : Fin 8) (t : Fin 2048) (n : Fin 512) (s : ℕ) : EReal :=
  if s ≤ t.val then proj I b ⟨t.val - s, by omega⟩ ⟨n.val, by omega⟩ else 0

/-- The convolution. -/
def conv (I : Inp) (b : Fin 8) (t : Fin 2048) (n : Fin 512) : EReal :=
  conv4 (I.cb n) (I.cw 0 n) (I.cw 1 n) (I.cw 2 n) (I.cw 3 n) (back I b t n 3) (back I b t n 2) (back I b t n 1) (back I b t n 0)

/-- A gate before its logistic: the channel's block of 64 against the block's matrix. -/
def gatePre (I : Inp) (w : Fin 8 → Fin 64 → Fin 64 → EReal) (bias : Fin 512 → EReal) (b : Fin 8) (t : Fin 2048) (n : Fin 512) :
    EReal :=
  ∑ j : Fin 64, conv I b t ⟨64 * (n.val / 64) + j.val, by omega⟩ * w ⟨n.val / 64, by omega⟩ j ⟨n.val % 64, by omega⟩ + bias n

/-- The multiplier of the recurrence at a position. -/
def aAt (I : Inp) (b : Fin 8) (n : Fin 512) (t : Fin 2048) : EReal := decay (gatePre I I.ga I.gab b t n) (-(I.lam n))

/-- The addend of the recurrence at a position. -/
def dAt (I : Inp) (b : Fin 8) (n : Fin 512) (t : Fin 2048) : EReal :=
  drive (gatePre I I.ga I.gab b t n) (gatePre I I.gx I.gxb b t n) (-(I.lam n)) (conv I b t n)

/-- The multipliers by position, zero past the sequence. -/
def aS (I : Inp) (b : Fin 8) (n : Fin 512) (j : ℕ) : EReal := if h : j < 2048 then aAt I b n ⟨j, h⟩ else 0
/-- The addends by position, zero past the sequence. -/
def dS (I : Inp) (b : Fin 8) (n : Fin 512) (j : ℕ) : EReal := if h : j < 2048 then dAt I b n ⟨j, h⟩ else 0

/-- The state after `t` positions, from zero. -/
def state (I : Inp) (b : Fin 8) (n : Fin 512) (t : ℕ) : EReal := recur (aS I b n) (dS I b n) 0 t

/-- Every multiplier is a real number from 0 on. -/
theorem aS_real (I : Inp) (b : Fin 8) (n : Fin 512) (j : ℕ) : ∃ x : ℝ, 0 ≤ x ∧ aS I b n j = (x : EReal) := by
  unfold aS
  split_ifs with h
  · exact exp_real (logDecay_cases _ _)
  · exact ⟨0, le_refl _, rfl⟩

/-- The gated output of the recurrent branch. -/
def outR (I : Inp) (b : Fin 8) (t : Fin 2048) (n : Fin 512) : EReal :=
  state I b n (t.val + 1) * gelu (proj I b t ⟨512 + n.val, by omega⟩)

/-- The queries, a group's query heads side by side. -/
def outQ (I : Inp) (b : Fin 8) (t : Fin 2048) (n : Fin 512) : EReal :=
  proj I b t ⟨1024 + (256 * (n.val / 64 % 2) + 64 * (n.val / 128) + n.val % 64), by omega⟩

/-- The keys. -/
def outK (I : Inp) (b : Fin 8) (t : Fin 2048) (l : Fin 128) : EReal :=
  headNorm (proj I b t ⟨1536 + l.val, by omega⟩) (fun i => proj I b t ⟨1536 + (64 * (l.val / 64) + i.val), by omega⟩)
    (I.kn ⟨l.val % 64, by omega⟩)

/-- The values. -/
def outV (I : Inp) (b : Fin 8) (t : Fin 2048) (l : Fin 128) : EReal := proj I b t ⟨1664 + l.val, by omega⟩

/-- The last eight rows of the recurrent branch. -/
def outC (I : Inp) (b : Fin 8) (r : Fin 8) (n : Fin 512) : EReal := proj I b ⟨2040 + r.val, by omega⟩ ⟨n.val, by omega⟩

/-- The state after the sequence. -/
def outH (I : Inp) (b : Fin 8) (n : Fin 512) : EReal := state I b n 2048

end Cert.Front
-- ==== Proof.KScan.lean ====
/- The kernel's scan over the 512 rows of a block, read at an index. The body takes the rows eight at a time: inside
   a group three doubling steps, then the groups one after another, each from the last row of the group before. What
   comes out at row `r` is the linear recurrence of the rows' multipliers and addends (`Cert.Front.recur`), from the
   carried row. -/
module

public import proofs.«01_k».proof.Proof.Math
public import proofs.«01_k».proof.Proof.Gen.KernelIdeal.Skeleton

@[expose] public section

set_option maxRecDepth 16384

noncomputable section

open Idealize.ShloMosaic

namespace Cert.KernelIdeal.Front

open Cert.KernelIdeal Cert.KernelIdeal.Gen Cert.Front

/-! ## The chain of groups -/

/-- Group `g` can be cut out of the 64 groups. -/
theorem slabSlices (g : ℕ) : S64x8x512.Slices ![g % 64, 0, 0] S1x8x512 := by
  refine ⟨rfl, fun a => ?_⟩
  have h := Nat.mod_lt g (show 0 < 64 by decide)
  match a with
  | ⟨0, _⟩ => show g % 64 + 1 ≤ 64; omega
  | ⟨1, _⟩ => show 0 + 8 ≤ 8; omega
  | ⟨2, _⟩ => show 0 + 512 ≤ 512; omega

/-- The eight rows of group `g`. -/
def slab (X : FVec Ideal S64x8x512 .f32) (g : ℕ) : FVec Ideal S8x512 .f32 :=
  shapeCast S8x512 (extractStridedSlice S1x8x512 ![g % 64, 0, 0] X (slabSlices g)) shapeCasts_S1x8x512_S8x512

/-- Group `g` of the result from the carried row. -/
def next (A B : FVec Ideal S64x8x512 .f32) (g : ℕ) (c : FVec Ideal S1x512 .f32) : FVec Ideal S8x512 .f32 :=
  addf (mulf (slab A g) (broadcastTo S8x512 c broadcasts_S1x512_S8x512)) (slab B g)

/-- The groups of the result, each from the last row of the one before. -/
def grp (A B : FVec Ideal S64x8x512 .f32) (c : FVec Ideal S1x512 .f32) : ℕ → FVec Ideal S8x512 .f32
  | 0 => next A B 0 c
  | g + 1 => next A B (g + 1) (extractStridedSlice S1x512 ![7, 0] (grp A B c g) slices_S8x512_o7_0_S1x512)

/-- A group is its eight rows. -/
theorem slab_apply (X : FVec Ideal S64x8x512 .f32) (g : ℕ) (hg : g < 64) (r : Fin 8) (n : Fin 512) :
    slab X g (ix2 r n) = X (ix3 ⟨g, hg⟩ r n) := by
  have h : g % 64 = g := Nat.mod_eq_of_lt hg
  unfold slab
  pointwise
  congr 1
  rw [ix3_inj]
  refine ⟨Fin.ext ?_, rfl, rfl⟩
  show g % 64 + 0 = g
  omega

/-- One group from the row before it. -/
theorem next_apply (A B : FVec Ideal S64x8x512 .f32) (g : ℕ) (hg : g < 64) (c : FVec Ideal S1x512 .f32) (r : Fin 8)
    (n : Fin 512) :
    next A B g c (ix2 r n) = A (ix3 ⟨g, hg⟩ r n) * c (ix2 0 n) + B (ix3 ⟨g, hg⟩ r n) := by
  unfold next
  pointwise [slab_apply _ g hg]

/-- A list of groups of eight rows, stacked. -/
theorem stackAt (j : S512x512.Idx) (L : List (FVec Ideal S8x512 .f32)) :
    ∀ (hs : ∀ s ∈ (L.map fun x => (⟨S8x512, x⟩ : (s : Shape) × (s.Idx → Ideal .f32))).map (·.1), s.FitsOff S512x512 0)
      (c : ℕ) (hc : c < (axisSizes S512x512 0 (L.map fun x => (⟨S8x512, x⟩ : (s : Shape) × (s.Idx → Ideal .f32)))).sum)
      (k : ℕ) (ρ : Fin 8) (_ : c = 8 * k + ρ.val) (hL : k < L.length),
      concatenateAt S512x512 0 j (L.map fun x => ⟨S8x512, x⟩) hs c hc = L[k] (ix2 ρ (j 1)) := by
  induction L with
  | nil => intro _ _ _ _ _ _ hL; simp at hL
  | cons x L ih =>
    intro hs c hc k ρ hk hL
    have hρ := ρ.isLt
    cases L with
    | nil =>
      obtain rfl : k = 0 := by simpa using hL
      simp only [List.map_cons, List.map_nil, concatenateAt_singleton, List.getElem_cons_zero]
      congr 1
      rw [Shape.Idx.norm_def]
      funext b
      match b with
      | ⟨0, _⟩ => exact Fin.ext (by show c = ρ.val; omega)
      | ⟨1, _⟩ => rfl
    | cons y L =>
      simp only [List.map_cons] at hs hc ⊢
      rw [concatenateAt_cons]
      split_ifs with hlt
      · have hlt' : c < 8 := hlt
        obtain rfl : k = 0 := by omega
        simp only [List.getElem_cons_zero]
        congr 1
        rw [Shape.Idx.norm_def]
        funext b
        match b with
        | ⟨0, _⟩ => exact Fin.ext (by show c = ρ.val; omega)
        | ⟨1, _⟩ => rfl
      · have hlt' : ¬ c < 8 := hlt
        obtain ⟨k, rfl⟩ : ∃ k', k = k' + 1 := ⟨k - 1, by omega⟩
        have := ih (fun s h => hs s (List.mem_cons_of_mem _ h)) (c - 8) (by
          rw [axisSizes_cons S512x512 0 ⟨S8x512, x⟩ _ (hs _ List.mem_cons_self), List.sum_cons] at hc
          have hc' : c < 8 + _ := hc
          simp only [List.map_cons]
          omega) k ρ (by omega) (by simp only [List.length_cons] at hL ⊢; omega)
        simp only [List.map_cons] at this
        refine this.trans ?_
        simp only [List.getElem_cons_succ]

/-- The 64 groups stacked are the 512 rows. -/
def stack (A B : FVec Ideal S64x8x512 .f32) (c : FVec Ideal S1x512 .f32)
    (h : Shape.Concatenates (((List.range 64).map fun g => (⟨S8x512, grp A B c g⟩ : (s : Shape) × (s.Idx → Ideal .f32))).map (·.1)) S512x512 0) :
    FVec Ideal S512x512 .f32 :=
  concatenate S512x512 0 ((List.range 64).map fun g => ⟨S8x512, grp A B c g⟩) h

/-- The stacked groups, by row. -/
theorem stack_apply (A B : FVec Ideal S64x8x512 .f32) (c : FVec Ideal S1x512 .f32) (h) (r : Fin 512) (n : Fin 512) :
    stack A B c h (ix2 r n) = grp A B c (r.val / 8) (ix2 ⟨r.val % 8, Nat.mod_lt _ (by decide)⟩ n) := by
  have e : ((List.range 64).map fun g => (⟨S8x512, grp A B c g⟩ : (s : Shape) × (s.Idx → Ideal .f32)))
      = ((List.range 64).map (grp A B c)).map fun x => ⟨S8x512, x⟩ := by rw [List.map_map]; rfl
  have hr : r.val / 8 < 64 := by omega
  unfold stack
  rw [concatenate_apply]
  have key := stackAt (ix2 r n) ((List.range 64).map (grp A B c))
  rw [← e] at key
  refine (key _ _ _ (r.val / 8) ⟨r.val % 8, Nat.mod_lt _ (by decide)⟩ (by show r.val = 8 * (r.val / 8) + r.val % 8; omega) (by simpa using hr)).trans ?_
  simp only [List.getElem_map, List.getElem_range]
  rfl

/-- If the multipliers and addends of each group carry a row before the group to the recurrence, the chain is the
    recurrence over all rows. -/
theorem grp_apply (A B : FVec Ideal S64x8x512 .f32) (c : FVec Ideal S1x512 .f32) (n : Fin 512) (a b : ℕ → EReal)
    (h : ∀ (g : ℕ) (hg : g < 64) (r : Fin 8) (x : EReal), A (ix3 ⟨g, hg⟩ r n) * x + B (ix3 ⟨g, hg⟩ r n)
      = recur (fun j => a (8 * g + j)) (fun j => b (8 * g + j)) x (r.val + 1)) :
    ∀ (g : ℕ) (_ : g < 64) (r : Fin 8), grp A B c g (ix2 r n) = recur a b (c (ix2 0 n)) (8 * g + (r.val + 1)) := by
  intro g
  induction g with
  | zero =>
    intro hg r
    rw [grp, next_apply _ _ _ hg, h]
    have := recur_shift a b (c (ix2 0 n)) 0 (r.val + 1)
    simpa [recur] using this
  | succ g ih =>
    intro hg r
    rw [grp, next_apply _ _ _ hg, h, ← recur_shift a b (c (ix2 0 n)) (8 * (g + 1)) (r.val + 1)]
    refine recur_congr _ ?_ (fun _ _ => rfl) (fun _ _ => rfl)
    have := ih (by omega) 7
    have e : 8 * (g + 1) = 8 * g + ((7 : Fin 8).val + 1) := by show 8 * (g + 1) = 8 * g + (7 + 1); omega
    rw [e, ← this]
    pointwise

end Cert.KernelIdeal.Front
-- ==== Proof.KBlock.lean ====
/- The kernel's block computation read at an index: each value of the body at a row and a channel, in the formulas of
   Spec.lean. -/
module

public import proofs.«01_k».proof.Proof.Spec
public import proofs.«01_k».proof.Proof.KScan
public import Idealize.ShloMosaic.Lib.WordCmp

@[expose] public section

set_option maxRecDepth 16384

noncomputable section

open Idealize.ShloMosaic

namespace Cert.KernelIdeal.Front

open Cert.KernelIdeal Cert.KernelIdeal.Gen Cert.Front WordCmp

/-- A choice on `a < c`, both small. -/
theorem sel_slt {α : Type} (a c : ℕ) (ha : a < 2 ^ 31) (hc : c < 2 ^ 31) (x y : α) :
    Scalar.select (IntOp.cmpi CmpIPredicate.slt (BitVec.ofNat 32 a) (BitVec.ofNat 32 c)) x y = if a < c then x else y := by
  unfold Scalar.select
  exact if_congr (cmpi_slt_ofNat_eq_one_iff ha hc) rfl rfl

/-- A choice on `c ≤ a`, both small. -/
theorem sel_sge {α : Type} (a c : ℕ) (ha : a < 2 ^ 31) (hc : c < 2 ^ 31) (x y : α) :
    Scalar.select (IntOp.cmpi CmpIPredicate.sge (BitVec.ofNat 32 a) (BitVec.ofNat 32 c)) x y = if c ≤ a then x else y := by
  unfold Scalar.select
  exact if_congr (cmpi_sge_ofNat_eq_one_iff ha hc) rfl rfl

/-! ## The projection -/

/-- The projection of a row of the block. -/
theorem pay8_apply (x : FVec Ideal S1x512x1024 .f32) (g : FVec Ideal S1x1024 .f32) (sc sh : FVec Ideal S1x1x1024 .f32)
    (w : FVec Ideal S1024x1792 .bf16) (r : Fin 512) (e : Fin 1792) :
    k0_pay8 (F := Ideal) x g sc sh w (ix2 r e)
      = ∑ k, normRow (fun k => x (ix3 0 r k)) (fun k => g (ix2 0 k)) (fun k => sc (ix3 0 0 k)) (fun k => sh (ix3 0 0 k)) k
          * w (ix2 k e) := by
  pointwise [k0_pay8, normRow]

/-! ## The keys -/

/-- A sum over 128 lanes in two halves. -/
theorem sum_halves (f : Fin 128 → EReal) :
    ∑ x, f x = ∑ i : Fin 64, f ⟨i.val, by omega⟩ + ∑ i : Fin 64, f ⟨64 + i.val, by omega⟩ :=
  Fin.sum_univ_add (a := 64) (b := 64) f

/-- The sum over 128 lanes of what stands in the lower half. -/
theorem sum_low (f : Fin 128 → EReal) :
    ∑ x, Scalar.select (IntOp.cmpi CmpIPredicate.slt (BitVec.ofNat 32 x.val) 64#32) (f x) 0
      = ∑ i : Fin 64, f ⟨i.val, by omega⟩ := by
  rw [sum_halves]
  have h1 : ∀ i : Fin 64, Scalar.select (IntOp.cmpi CmpIPredicate.slt (BitVec.ofNat 32 (64 + i.val)) 64#32)
      (f ⟨64 + i.val, by omega⟩) 0 = 0 := fun i => by
    rw [sel_slt _ _ (by omega) (by decide), if_neg (by omega)]
  have h2 : ∀ i : Fin 64, Scalar.select (IntOp.cmpi CmpIPredicate.slt (BitVec.ofNat 32 i.val) 64#32)
      (f ⟨i.val, by omega⟩) 0 = f ⟨i.val, by omega⟩ := fun i => by
    rw [sel_slt _ _ (by omega) (by decide), if_pos (by omega)]
  simp only [h1, h2, Finset.sum_const_zero, add_zero]

/-- The sum over 128 lanes of what stands in the upper half. -/
theorem sum_high (f : Fin 128 → EReal) :
    ∑ x, Scalar.select (IntOp.cmpi CmpIPredicate.slt (BitVec.ofNat 32 x.val) 64#32) 0 (f x)
      = ∑ i : Fin 64, f ⟨64 + i.val, by omega⟩ := by
  rw [sum_halves]
  have h1 : ∀ i : Fin 64, Scalar.select (IntOp.cmpi CmpIPredicate.slt (BitVec.ofNat 32 (64 + i.val)) 64#32)
      0 (f ⟨64 + i.val, by omega⟩) = f ⟨64 + i.val, by omega⟩ := fun i => by
    rw [sel_slt _ _ (by omega) (by decide), if_neg (by omega)]
  have h2 : ∀ i : Fin 64, Scalar.select (IntOp.cmpi CmpIPredicate.slt (BitVec.ofNat 32 i.val) 64#32)
      0 (f ⟨i.val, by omega⟩) = 0 := fun i => by
    rw [sel_slt _ _ (by omega) (by decide), if_pos (by omega)]
  simp only [h1, h2, Finset.sum_const_zero, zero_add]

/-- A key entry of the block: normalised over the 64 entries of its head. -/
theorem pay13_apply (p : FVec Ideal S512x1792 .f32) (gk : FVec Ideal S1x128 .f32) (r : Fin 512) (l : Fin 128) :
    k0_pay13 (F := Ideal) p gk (ix3 0 r l)
      = headNorm (p (ix2 r ⟨1536 + l.val, by omega⟩)) (fun i => p (ix2 r ⟨1536 + (64 * (l.val / 64) + i.val), by omega⟩))
          (gk (ix2 0 l)) := by
  pointwise [k0_pay13]
  rw [sum_low (fun x => p (ix2 r ⟨1536 + x.val, by omega⟩) * p (ix2 r ⟨1536 + x.val, by omega⟩)),
    sum_high (fun x => p (ix2 r ⟨1536 + x.val, by omega⟩) * p (ix2 r ⟨1536 + x.val, by omega⟩)),
    sel_slt _ _ (by omega) (by decide)]
  unfold headNorm
  rw [div_64, word_64th]
  have e : (if l.val < 64 then ∑ i : Fin 64, p (ix2 r ⟨1536 + i.val, by omega⟩) * p (ix2 r ⟨1536 + i.val, by omega⟩)
      else ∑ i : Fin 64, p (ix2 r ⟨1536 + (64 + i.val), by omega⟩) * p (ix2 r ⟨1536 + (64 + i.val), by omega⟩))
      = ∑ i : Fin 64, p (ix2 r ⟨1536 + (64 * (l.val / 64) + i.val), by omega⟩)
          * p (ix2 r ⟨1536 + (64 * (l.val / 64) + i.val), by omega⟩) := by
    split_ifs with h
    · have hl : l.val / 64 = 0 := by omega
      simp only [hl, Nat.mul_zero, Nat.zero_add]
    · have hl : l.val / 64 = 1 := by omega
      simp only [hl, Nat.mul_one]
  rw [← e]

/-! ## The convolution -/

/-- Eight rows of the tail, then the block's rows: channel `n` at position `i`. -/
def hist (x : FVec Ideal S512x512 .f32) (t : FVec Ideal S8x512 .f32) (n : Fin 512) (i : ℕ) : EReal :=
  if h : i < 8 then t (ix2 ⟨i, h⟩ n) else if h' : i - 8 < 512 then x (ix2 ⟨i - 8, h'⟩ n) else 0

/-- The rows moved down by `s`, the first from the tail: the history `s` positions back. -/
theorem shifted_eq (x : FVec Ideal S512x512 .f32) (t : FVec Ideal S8x512 .f32) (n : Fin 512) (r : Fin 512) (s : ℕ)
    (hs : s ≤ 3) (h1 h2 h3) :
    (if _ : r.val < 8 then
        Scalar.select (IntOp.cmpi CmpIPredicate.slt (BitVec.ofNat 32 r.val) (BitVec.ofNat 32 s))
          (t (ix2 ⟨(r.val + 8 - s) % 8, h1⟩ n)) (x (ix2 ⟨(r.val + 512 - s) % 512, h2⟩ n))
      else x (ix2 ⟨(8 + (r.val - 8) + 512 - s) % 512, h3⟩ n)) = hist x t n (r.val + (8 - s)) := by
  have hr := r.isLt
  unfold hist
  split_ifs with c1 c2 c3 c4
  · rw [sel_slt _ _ (by omega) (by omega), if_pos (by omega)]
    congr 3; omega
  · rw [sel_slt _ _ (by omega) (by omega), if_neg (by omega)]
    congr 3; omega
  · omega
  · omega
  · congr 3; omega
  · omega

/-- The convolution at a row of the block. -/
theorem pay15_apply (x : FVec Ideal S512x512 .f32) (t : FVec Ideal S8x512 .f32) (cw : FVec Ideal S4x512 .f32)
    (cb : FVec Ideal S1x512 .f32) (r : Fin 512) (n : Fin 512) :
    k0_pay15 (F := Ideal) x t cw cb (ix2 r n)
      = conv4 (cb (ix2 0 n)) (cw (ix2 0 n)) (cw (ix2 1 n)) (cw (ix2 2 n)) (cw (ix2 3 n))
          (hist x t n (r.val + 5)) (hist x t n (r.val + 6)) (hist x t n (r.val + 7)) (hist x t n (r.val + 8)) := by
  pointwise [k0_pay15]
  have e3 := shifted_eq x t n r 3 (by decide) (by omega) (by omega) (by omega)
  have e2 := shifted_eq x t n r 2 (by decide) (by omega) (by omega) (by omega)
  have e1 := shifted_eq x t n r 1 (by decide) (by omega) (by omega) (by omega)
  have h : hist x t n (r.val + 8) = x (ix2 r n) := by
    unfold hist; rw [dif_neg (by omega), dif_pos (by omega)]; congr 2
  rw [h]
  unfold conv4
  exact congr (congrArg HAdd.hAdd (congr (congrArg HAdd.hAdd (congr (congrArg HAdd.hAdd (congrArg (cb (ix2 0 n) + ·) (congrArg (· * cw (ix2 0 n)) e3)))
    (congrArg (· * cw (ix2 1 n)) e2))) (congrArg (· * cw (ix2 2 n)) e1))) rfl

/-! ## The gates, the multiplier and the addend -/

/-- The input gate. -/
theorem pay18_apply (u : FVec Ideal S512x512 .f32) (wg : FVec Ideal S512x1024 .bf16) (gb : FVec Ideal S1x1024 .f32)
    (r : Fin 512) (n : Fin 512) :
    k0_pay18 (F := Ideal) u wg gb (ix2 r n)
      = Ideal.logistic (∑ k, u (ix2 r k) * wg (ix2 k ⟨512 + n.val, by omega⟩) + gb (ix2 0 ⟨512 + n.val, by omega⟩)) := by
  pointwise [k0_pay18, k0_pay17]
  rw [word_half, sigmoid_eq]

/-- Minus eight times the recurrence gate. -/
theorem pay19_apply (u : FVec Ideal S512x512 .f32) (wg : FVec Ideal S512x1024 .bf16) (gb : FVec Ideal S1x1024 .f32)
    (r : Fin 512) (n : Fin 512) :
    k0_pay19 (F := Ideal) u wg gb (ix2 r n)
      = ((-8 : ℝ) : EReal) * Ideal.logistic (∑ k, u (ix2 r k) * wg (ix2 k ⟨n.val, by omega⟩) + gb (ix2 0 ⟨n.val, by omega⟩)) := by
  pointwise [k0_pay19, k0_pay17]
  rw [word_half, sigmoid_eq, word_neg8]

/-- The logarithm of the decay. -/
theorem pay23_apply (v152 : FVec Ideal S512x512 .f32) (lam : FVec Ideal S1x512 .f32) (r : Fin 512) (n : Fin 512) :
    k0_pay23 (F := Ideal) v152 (k0_pay21 lam) (k0_pay22 lam) (ix2 r n)
      = v152 (ix2 r n) * softplus (-(lam (ix2 0 n))) := by
  pointwise [k0_pay23, k0_pay22, k0_pay21, k0_pay20]
  rw [← ksoftplus_eq]
  simp only [zero_sub, Ideal.absf_def, klog1p]

/-- A choice between a row moved down inside its group and a constant. -/
theorem roll_sel (X : FVec Ideal S64x8x512 .f32) (f : ℕ → EReal) (g : Fin 64) (n : Fin 512)
    (hX : ∀ r : Fin 8, X (ix3 g r n) = f r.val) (r : Fin 8) (s : ℕ) (hs : s < 8) (c : EReal) (h) :
    Scalar.select (IntOp.cmpi CmpIPredicate.sge (BitVec.ofNat 32 r.val) (BitVec.ofNat 32 s))
      (X (ix3 g ⟨(r.val + 8 - s) % 8, h⟩ n)) c = if s ≤ r.val then f (r.val - s) else c := by
  have hr := r.isLt
  rw [sel_sge _ _ (by omega) (by omega)]
  split_ifs with c1
  · rw [hX]; congr 1; show (r.val + 8 - s) % 8 = r.val - s; omega
  · rfl

/-- The same with a factor in front and 0 as the constant. -/
theorem roll_mul (X : FVec Ideal S64x8x512 .f32) (f : ℕ → EReal) (g : Fin 64) (n : Fin 512)
    (hX : ∀ r : Fin 8, X (ix3 g r n) = f r.val) (r : Fin 8) (s : ℕ) (hs : s < 8) (p : EReal) (h) :
    Scalar.select (IntOp.cmpi CmpIPredicate.sge (BitVec.ofNat 32 r.val) (BitVec.ofNat 32 s))
      (p * X (ix3 g ⟨(r.val + 8 - s) % 8, h⟩ n)) 0 = p * (if s ≤ r.val then f (r.val - s) else 0) := by
  have hr := r.isLt
  rw [sel_sge _ _ (by omega) (by omega)]
  split_ifs with c1
  · rw [hX]; congr 2; show (r.val + 8 - s) % 8 = r.val - s; omega
  · rw [mul_zero]

section
variable (u v150 v152 : FVec Ideal S512x512 .f32) (v156 v160 : FVec Ideal S1x512 .f32) (g : Fin 64) (n : Fin 512)

/-- The multipliers of group `g`, by row. -/
def aRow (j : ℕ) : EReal :=
  if h : 8 * g.val + j < 512 then k0_pay24 (F := Ideal) v152 v156 v160 (ix2 ⟨8 * g.val + j, h⟩ n) else 0

/-- The addends of the block. -/
def bVec : FVec Ideal S512x512 .f32 := fun j =>
  ((0 - Ideal.tanh (k0_pay23 (F := Ideal) v152 v156 v160 j))
      * (Ideal.exp (k0_pay23 (F := Ideal) v152 v156 v160 j) * Ideal.exp (k0_pay23 (F := Ideal) v152 v156 v160 j) + 1))
    * Ideal.rsqrt (max ((0 - Ideal.tanh (k0_pay23 (F := Ideal) v152 v156 v160 j))
      * (Ideal.exp (k0_pay23 (F := Ideal) v152 v156 v160 j) * Ideal.exp (k0_pay23 (F := Ideal) v152 v156 v160 j) + 1)) ⊥)
    * (v150 j * u j)

/-- The addends of group `g`, by row. -/
def bRow (j : ℕ) : EReal :=
  if h : 8 * g.val + j < 512 then bVec u v150 v152 v156 v160 (ix2 ⟨8 * g.val + j, h⟩ n) else 0

/-- The multipliers of a group, by row. -/
theorem pay25_apply (r : Fin 8) : k0_pay25 (F := Ideal) v152 v156 v160 (ix3 g r n) = aRow v152 v156 v160 g n r.val := by
  have hg := g.isLt; have hr := r.isLt
  pointwise [k0_pay25]
  unfold aRow
  rw [dif_pos (by omega)]
  congr 3; omega

/-- The multipliers one row down, with one above the group. -/
theorem pay27_apply (r : Fin 8) : k0_pay27 (F := Ideal) v152 v156 v160 (ix3 g r n)
    = if 1 ≤ r.val then aRow v152 v156 v160 g n (r.val - 1) else 1 := by
  unfold k0_pay27 k0_pay26
  generalize hX : k0_pay25 (F := Ideal) v152 v156 v160 = X
  pointwise
  rw [roll_sel X (aRow v152 v156 v160 g n) g n (fun r => by rw [← hX]; exact pay25_apply ..) r 1 (by decide)]

/-- The kernel's constant "tiny" is −∞ at the real numbers. -/
theorem tiny_eq : (Named.named (F := Ideal) κ "tiny" 0x00800000#32 : Ideal .f32) = (⊥ : EReal) :=
  IdealRules.named_const.ideal_named_scalar _ _ _ _ rfl

/-- The addends, cut into groups of eight rows. -/
theorem bCast_apply (r : Fin 8) :
    shapeCast (α := EReal) S64x8x512 (bVec u v150 v152 v156 v160) shapeCasts_S512x512_S64x8x512 (ix3 g r n)
      = bRow u v150 v152 v156 v160 g n r.val := by
  have hg := g.isLt; have hr := r.isLt
  generalize hB : bVec u v150 v152 v156 v160 = B
  pointwise
  unfold bRow
  rw [dif_pos (by omega), hB]
  congr 3; omega

/-- The addends after the first step of the scan inside a group. -/
theorem pay28_apply (r : Fin 8) : k0_pay28 (F := Ideal) u v150 v152 v156 v160 (ix3 g r n)
    = stepB 1 (aRow v152 v156 v160 g n) (bRow u v150 v152 v156 v160 g n) r.val := by
  unfold k0_pay28 k0_pay26
  rw [tiny_eq]
  have hb : bVec u v150 v152 v156 v160
      = mulf (mulf (mulf (subf (broadcast S512x512 (Scalar.ofBits .f32 0x00000000#32)) (tanh (k0_pay23 (F := Ideal) v152 v156 v160)))
          (addf (mulf (k0_pay24 (F := Ideal) v152 v156 v160) (k0_pay24 (F := Ideal) v152 v156 v160)) (broadcast S512x512 (Scalar.ofBits .f32 0x3F800000#32))))
        (rsqrt (maximumf (mulf (subf (broadcast S512x512 (Scalar.ofBits .f32 0x00000000#32)) (tanh (k0_pay23 (F := Ideal) v152 v156 v160)))
          (addf (mulf (k0_pay24 (F := Ideal) v152 v156 v160) (k0_pay24 (F := Ideal) v152 v156 v160)) (broadcast S512x512 (Scalar.ofBits .f32 0x3F800000#32))))
            (broadcast S512x512 (⊥ : EReal))))) (mulf v150 u) := by
    funext j
    idx_vars j
    pointwise [k0_pay24, bVec]
  dsimp only
  rw [← hb]
  generalize hX : k0_pay25 (F := Ideal) v152 v156 v160 = X
  generalize hY : shapeCast (α := EReal) S64x8x512 (bVec u v150 v152 v156 v160) shapeCasts_S512x512_S64x8x512 = Y
  have hYr : ∀ r : Fin 8, Y (ix3 g r n) = bRow u v150 v152 v156 v160 g n r.val := fun r => by
    rw [← hY]; exact bCast_apply ..
  pointwise
  rw [roll_mul Y (bRow u v150 v152 v156 v160 g n) g n hYr r 1 (by decide), hYr, ← hX, pay25_apply]
  rfl
end

section
variable (A1 R1 B1 : FVec Ideal S64x8x512 .f32) (a b : ℕ → EReal) (g : Fin 64) (n : Fin 512)

/-- The row numbers inside the groups. -/
abbrev rowNo : IVec S64x8x512 32 := iota .tc S64x8x512 32 [1] iota_S64x8x512_d1_w32

variable (hA : ∀ r : Fin 8, A1 (ix3 g r n) = a r.val) (hR : ∀ r : Fin 8, R1 (ix3 g r n) = if 1 ≤ r.val then a (r.val - 1) else 1)

include hA hR in
/-- The multipliers after the first step. -/
theorem pay29_apply (r : Fin 8) : k0_pay29 (F := Ideal) A1 R1 (ix3 g r n) = stepA 1 a r.val := by
  pointwise [k0_pay29]
  rw [hA, hR]; rfl

include hA hR in
/-- The multipliers after the second step. -/
theorem pay31_apply (r : Fin 8) : k0_pay31 (F := Ideal) A1 rowNo R1 (ix3 g r n) = stepA 2 (stepA 1 a) r.val := by
  unfold k0_pay31 k0_pay30
  have h := pay29_apply A1 R1 a g n hA hR
  generalize k0_pay29 (F := Ideal) A1 R1 = X at h ⊢
  pointwise
  rw [roll_sel X (stepA 1 a) g n h r 2 (by decide), h]; rfl

include hA hR in
/-- The multipliers of a group after the three steps. -/
theorem pay34_apply (r : Fin 8) : k0_pay34 (F := Ideal) A1 rowNo R1 (ix3 g r n) = stepA 4 (stepA 2 (stepA 1 a)) r.val := by
  unfold k0_pay34 k0_pay32
  have h := pay31_apply A1 R1 a g n hA hR
  generalize k0_pay31 (F := Ideal) A1 rowNo R1 = X at h ⊢
  pointwise
  rw [roll_sel X (stepA 2 (stepA 1 a)) g n h r 4 (by decide), h]; rfl

include hA hR in
/-- The addends of a group after the three steps. -/
theorem pay33_apply (hB : ∀ r : Fin 8, B1 (ix3 g r n) = stepB 1 a b r.val) (r : Fin 8) :
    k0_pay33 (F := Ideal) A1 rowNo R1 B1 (ix3 g r n)
      = stepB 4 (stepA 2 (stepA 1 a)) (stepB 2 (stepA 1 a) (stepB 1 a b)) r.val := by
  unfold k0_pay33 k0_pay32 k0_pay30
  have h1 := pay29_apply A1 R1 a g n hA hR
  have h2 := pay31_apply A1 R1 a g n hA hR
  generalize k0_pay31 (F := Ideal) A1 rowNo R1 = X2 at h2 ⊢
  generalize k0_pay29 (F := Ideal) A1 R1 = X1 at h1 ⊢
  dsimp only
  generalize hY : addf (mulf X1 (select (cmpi .sge rowNo (broadcast S64x8x512 2#32))
    (dynamicRotate 1 2#32 none B1 rotates_S64x8x512_d1) (broadcast S64x8x512 (Scalar.ofBits (F := Ideal) .f32 0x00000000#32)))) B1 = Y
  have h : ∀ r : Fin 8, Y (ix3 g r n) = stepB 2 (stepA 1 a) (stepB 1 a b) r.val := fun r => by
    rw [← hY]
    pointwise
    rw [roll_mul B1 (stepB 1 a b) g n hB r 2 (by decide), hB, h1]; rfl
  pointwise
  rw [roll_mul Y (stepB 2 (stepA 1 a) (stepB 1 a b)) g n h r 4 (by decide), h2, h]; rfl
end

/-- The values of the scan over a block: row `r` after `r + 1` steps of the recurrence. -/
theorem scan_apply (u v150 v152 : FVec Ideal S512x512 .f32) (v156 v160 c : FVec Ideal S1x512 .f32) (n : Fin 512)
    (a b : ℕ → EReal) (ha : ∀ r : Fin 512, k0_pay24 (F := Ideal) v152 v156 v160 (ix2 r n) = a r.val)
    (hb : ∀ r : Fin 512, bVec u v150 v152 v156 v160 (ix2 r n) = b r.val)
    (hpos : ∀ j, ∃ x : ℝ, 0 ≤ x ∧ a j = (x : EReal)) (h) (r : Fin 512) :
    stack (k0_pay34 (F := Ideal) (k0_pay25 v152 v156 v160) rowNo (k0_pay27 v152 v156 v160))
      (k0_pay33 (F := Ideal) (k0_pay25 v152 v156 v160) rowNo (k0_pay27 v152 v156 v160) (k0_pay28 u v150 v152 v156 v160))
      c h (ix2 r n) = recur a b (c (ix2 0 n)) (r.val + 1) := by
  have hr := r.isLt
  have hR : ∀ g : Fin 64, ∀ j : ℕ, j < 8 → aRow v152 v156 v160 g n j = a (8 * g.val + j) := fun g j hj => by
    have := g.isLt
    unfold aRow; rw [dif_pos (by omega), ha]
  have hS : ∀ g : Fin 64, ∀ j : ℕ, j < 8 → bRow u v150 v152 v156 v160 g n j = b (8 * g.val + j) := fun g j hj => by
    have := g.isLt
    unfold bRow; rw [dif_pos (by omega), hb]
  rw [stack_apply]
  refine (grp_apply _ _ c n a b ?_ (r.val / 8) (by omega) ⟨r.val % 8, Nat.mod_lt _ (by decide)⟩).trans ?_
  · intro g' hg r x
    obtain ⟨g, rfl⟩ : ∃ g : Fin 64, g.val = g' := ⟨⟨g', hg⟩, rfl⟩
    have hr' := r.isLt
    rw [pay34_apply _ _ (fun j => a (8 * g.val + j)) g n (fun r => by rw [pay25_apply, hR g _ r.isLt])
        (fun r => by
          have := r.isLt
          rw [pay27_apply]; split_ifs
          · rw [hR g _ (by omega)]
          · rfl),
      pay33_apply _ _ _ (fun j => a (8 * g.val + j)) (fun j => b (8 * g.val + j)) g n
        (fun r => by rw [pay25_apply, hR g _ r.isLt])
        (fun r => by
          have := r.isLt
          rw [pay27_apply]; split_ifs
          · rw [hR g _ (by omega)]
          · rfl)
        (fun r => by
          have := r.isLt
          rw [pay28_apply]; unfold stepB
          rw [hR g _ r.isLt, hS g _ r.isLt]; split_ifs
          · rw [hS g _ (by omega)]
          · rfl),
      scan8 _ _ _ (fun j => hpos _) _ hr']
  · congr 1; simp only; omega

end Cert.KernelIdeal.Front
-- ==== Proof.KChain.lean ====
/- The chain of 64 groups, as the body spells it, is the chain of KScan.lean. -/
module

public import proofs.«01_k».proof.Proof.KScan

@[expose] public section

set_option maxRecDepth 16384

noncomputable section

open Idealize.ShloMosaic

namespace Cert.KernelIdeal.Front

open Cert.KernelIdeal Cert.KernelIdeal.Gen Cert.Front

/-- The body's pieces, stacked, are the chain of groups stacked. -/
theorem chain_eq (v192 : FVec Ideal S1x512 .f32) (v193 : FVec Ideal S64x8x512 .f32) (v195 : IVec S64x8x512 32)
    (v200 v205 : FVec Ideal S64x8x512 .f32) (v254 v255 v315 v374 v375 v435 v494 v495 v555 v614 v615 v675 v734 v735 : FVec Ideal S8x512 .f32)
    (e254 : v254 = k0_pay38 v193 v195 v200)
    (e255 : v255 = k0_pay39 v192 v193 v195 v200 v205)
    (e315 : v315 = k0_pay47 (k0_pay33 v193 v195 v200 v205) (k0_pay34 v193 v195 v200) v254 v255)
    (e374 : v374 = k0_pay55 (k0_pay34 v193 v195 v200))
    (e375 : v375 = k0_pay56 (k0_pay33 v193 v195 v200 v205) (k0_pay34 v193 v195 v200) v315)
    (e435 : v435 = k0_pay64 (k0_pay33 v193 v195 v200 v205) (k0_pay34 v193 v195 v200) v374 v375)
    (e494 : v494 = k0_pay72 (k0_pay34 v193 v195 v200))
    (e495 : v495 = k0_pay73 (k0_pay33 v193 v195 v200 v205) (k0_pay34 v193 v195 v200) v435)
    (e555 : v555 = k0_pay81 (k0_pay33 v193 v195 v200 v205) (k0_pay34 v193 v195 v200) v494 v495)
    (e614 : v614 = k0_pay89 (k0_pay34 v193 v195 v200))
    (e615 : v615 = k0_pay90 (k0_pay33 v193 v195 v200 v205) (k0_pay34 v193 v195 v200) v555)
    (e675 : v675 = k0_pay98 (k0_pay33 v193 v195 v200 v205) (k0_pay34 v193 v195 v200) v614 v615)
    (e734 : v734 = k0_pay106 (k0_pay34 v193 v195 v200))
    (e735 : v735 = k0_pay107 (k0_pay33 v193 v195 v200 v205) (k0_pay34 v193 v195 v200) v675)
    (h h') :
    concatenate S512x512 0
      (⟨S8x512, k0_pay35 v192 v193 v195 v200 v205⟩ ::
        ⟨S8x512, k0_pay36 v192 v193 v195 v200 v205⟩ ::
        ⟨S8x512, k0_pay37 v192 v193 v195 v200 v205⟩ ::
        ⟨S8x512, k0_pay40 (k0_pay33 v193 v195 v200 v205) v254 v255⟩ ::
        ⟨S8x512, k0_pay41 (k0_pay33 v193 v195 v200 v205) (k0_pay34 v193 v195 v200) v254 v255⟩ ::
        ⟨S8x512, k0_pay42 (k0_pay33 v193 v195 v200 v205) (k0_pay34 v193 v195 v200) v254 v255⟩ ::
        ⟨S8x512, k0_pay43 (k0_pay33 v193 v195 v200 v205) (k0_pay34 v193 v195 v200) v254 v255⟩ ::
        ⟨S8x512, k0_pay44 (k0_pay33 v193 v195 v200 v205) (k0_pay34 v193 v195 v200) v254 v255⟩ ::
        ⟨S8x512, k0_pay45 (k0_pay33 v193 v195 v200 v205) (k0_pay34 v193 v195 v200) v254 v255⟩ ::
        ⟨S8x512, k0_pay46 (k0_pay33 v193 v195 v200 v205) (k0_pay34 v193 v195 v200) v254 v255⟩ ::
        ⟨S8x512, k0_pay47 (k0_pay33 v193 v195 v200 v205) (k0_pay34 v193 v195 v200) v254 v255⟩ ::
        ⟨S8x512, k0_pay48 (k0_pay33 v193 v195 v200 v205) (k0_pay34 v193 v195 v200) v315⟩ ::
        ⟨S8x512, k0_pay49 (k0_pay33 v193 v195 v200 v205) (k0_pay34 v193 v195 v200) v315⟩ ::
        ⟨S8x512, k0_pay50 (k0_pay33 v193 v195 v200 v205) (k0_pay34 v193 v195 v200) v315⟩ ::
        ⟨S8x512, k0_pay51 (k0_pay33 v193 v195 v200 v205) (k0_pay34 v193 v195 v200) v315⟩ ::
        ⟨S8x512, k0_pay52 (k0_pay33 v193 v195 v200 v205) (k0_pay34 v193 v195 v200) v315⟩ ::
        ⟨S8x512, k0_pay53 (k0_pay33 v193 v195 v200 v205) (k0_pay34 v193 v195 v200) v315⟩ ::
        ⟨S8x512, k0_pay54 (k0_pay33 v193 v195 v200 v205) (k0_pay34 v193 v195 v200) v315⟩ ::
        ⟨S8x512, k0_pay57 (k0_pay33 v193 v195 v200 v205) v374 v375⟩ ::
        ⟨S8x512, k0_pay58 (k0_pay33 v193 v195 v200 v205) (k0_pay34 v193 v195 v200) v374 v375⟩ ::
        ⟨S8x512, k0_pay59 (k0_pay33 v193 v195 v200 v205) (k0_pay34 v193 v195 v200) v374 v375⟩ ::
        ⟨S8x512, k0_pay60 (k0_pay33 v193 v195 v200 v205) (k0_pay34 v193 v195 v200) v374 v375⟩ ::
        ⟨S8x512, k0_pay61 (k0_pay33 v193 v195 v200 v205) (k0_pay34 v193 v195 v200) v374 v375⟩ ::
        ⟨S8x512, k0_pay62 (k0_pay33 v193 v195 v200 v205) (k0_pay34 v193 v195 v200) v374 v375⟩ ::
        ⟨S8x512, k0_pay63 (k0_pay33 v193 v195 v200 v205) (k0_pay34 v193 v195 v200) v374 v375⟩ ::
        ⟨S8x512, k0_pay64 (k0_pay33 v193 v195 v200 v205) (k0_pay34 v193 v195 v200) v374 v375⟩ ::
        ⟨S8x512, k0_pay65 (k0_pay33 v193 v195 v200 v205) (k0_pay34 v193 v195 v200) v435⟩ ::
        ⟨S8x512, k0_pay66 (k0_pay33 v193 v195 v200 v205) (k0_pay34 v193 v195 v200) v435⟩ ::
        ⟨S8x512, k0_pay67 (k0_pay33 v193 v195 v200 v205) (k0_pay34 v193 v195 v200) v435⟩ ::
        ⟨S8x512, k0_pay68 (k0_pay33 v193 v195 v200 v205) (k0_pay34 v193 v195 v200) v435⟩ ::
        ⟨S8x512, k0_pay69 (k0_pay33 v193 v195 v200 v205) (k0_pay34 v193 v195 v200) v435⟩ ::
        ⟨S8x512, k0_pay70 (k0_pay33 v193 v195 v200 v205) (k0_pay34 v193 v195 v200) v435⟩ ::
        ⟨S8x512, k0_pay71 (k0_pay33 v193 v195 v200 v205) (k0_pay34 v193 v195 v200) v435⟩ ::
        ⟨S8x512, k0_pay74 (k0_pay33 v193 v195 v200 v205) v494 v495⟩ ::
        ⟨S8x512, k0_pay75 (k0_pay33 v193 v195 v200 v205) (k0_pay34 v193 v195 v200) v494 v495⟩ ::
        ⟨S8x512, k0_pay76 (k0_pay33 v193 v195 v200 v205) (k0_pay34 v193 v195 v200) v494 v495⟩ ::
        ⟨S8x512, k0_pay77 (k0_pay33 v193 v195 v200 v205) (k0_pay34 v193 v195 v200) v494 v495⟩ ::
        ⟨S8x512, k0_pay78 (k0_pay33 v193 v195 v200 v205) (k0_pay34 v193 v195 v200) v494 v495⟩ ::
        ⟨S8x512, k0_pay79 (k0_pay33 v193 v195 v200 v205) (k0_pay34 v193 v195 v200) v494 v495⟩ ::
        ⟨S8x512, k0_pay80 (k0_pay33 v193 v195 v200 v205) (k0_pay34 v193 v195 v200) v494 v495⟩ ::
        ⟨S8x512, k0_pay81 (k0_pay33 v193 v195 v200 v205) (k0_pay34 v193 v195 v200) v494 v495⟩ ::
        ⟨S8x512, k0_pay82 (k0_pay33 v193 v195 v200 v205) (k0_pay34 v193 v195 v200) v555⟩ ::
        ⟨S8x512, k0_pay83 (k0_pay33 v193 v195 v200 v205) (k0_pay34 v193 v195 v200) v555⟩ ::
        ⟨S8x512, k0_pay84 (k0_pay33 v193 v195 v200 v205) (k0_pay34 v193 v195 v200) v555⟩ ::
        ⟨S8x512, k0_pay85 (k0_pay33 v193 v195 v200 v205) (k0_pay34 v193 v195 v200) v555⟩ ::
        ⟨S8x512, k0_pay86 (k0_pay33 v193 v195 v200 v205) (k0_pay34 v193 v195 v200) v555⟩ ::
        ⟨S8x512, k0_pay87 (k0_pay33 v193 v195 v200 v205) (k0_pay34 v193 v195 v200) v555⟩ ::
        ⟨S8x512, k0_pay88 (k0_pay33 v193 v195 v200 v205) (k0_pay34 v193 v195 v200) v555⟩ ::
        ⟨S8x512, k0_pay91 (k0_pay33 v193 v195 v200 v205) v614 v615⟩ ::
        ⟨S8x512, k0_pay92 (k0_pay33 v193 v195 v200 v205) (k0_pay34 v193 v195 v200) v614 v615⟩ ::
        ⟨S8x512, k0_pay93 (k0_pay33 v193 v195 v200 v205) (k0_pay34 v193 v195 v200) v614 v615⟩ ::
        ⟨S8x512, k0_pay94 (k0_pay33 v193 v195 v200 v205) (k0_pay34 v193 v195 v200) v614 v615⟩ ::
        ⟨S8x512, k0_pay95 (k0_pay33 v193 v195 v200 v205) (k0_pay34 v193 v195 v200) v614 v615⟩ ::
        ⟨S8x512, k0_pay96 (k0_pay33 v193 v195 v200 v205) (k0_pay34 v193 v195 v200) v614 v615⟩ ::
        ⟨S8x512, k0_pay97 (k0_pay33 v193 v195 v200 v205) (k0_pay34 v193 v195 v200) v614 v615⟩ ::
        ⟨S8x512, k0_pay98 (k0_pay33 v193 v195 v200 v205) (k0_pay34 v193 v195 v200) v614 v615⟩ ::
        ⟨S8x512, k0_pay99 (k0_pay33 v193 v195 v200 v205) (k0_pay34 v193 v195 v200) v675⟩ ::
        ⟨S8x512, k0_pay100 (k0_pay33 v193 v195 v200 v205) (k0_pay34 v193 v195 v200) v675⟩ ::
        ⟨S8x512, k0_pay101 (k0_pay33 v193 v195 v200 v205) (k0_pay34 v193 v195 v200) v675⟩ ::
        ⟨S8x512, k0_pay102 (k0_pay33 v193 v195 v200 v205) (k0_pay34 v193 v195 v200) v675⟩ ::
        ⟨S8x512, k0_pay103 (k0_pay33 v193 v195 v200 v205) (k0_pay34 v193 v195 v200) v675⟩ ::
        ⟨S8x512, k0_pay104 (k0_pay33 v193 v195 v200 v205) (k0_pay34 v193 v195 v200) v675⟩ ::
        ⟨S8x512, k0_pay105 (k0_pay33 v193 v195 v200 v205) (k0_pay34 v193 v195 v200) v675⟩ ::
        ⟨S8x512, k0_pay1 (k0_pay33 v193 v195 v200 v205) v734 v735⟩ :: []) h
      = stack (k0_pay34 (F := Ideal) v193 v195 v200) (k0_pay33 (F := Ideal) v193 v195 v200 v205) v192 h' := by
  subst e735 e734 e675 e615 e614 e555 e495 e494 e435 e375 e374 e315 e255 e254
  unfold stack
  congr 1

end Cert.KernelIdeal.Front
-- ==== Proof.KOpen.lean ====
/- What the body leaves at a grid point, as the values of KBlock.lean of the blocks read there. -/
module

public import proofs.«01_k».proof.Proof.KBlock
public import proofs.«01_k».proof.Proof.KChain
public import proofs.«01_k».proof.Proof.Gen.KernelIdeal.Value

@[expose] public section

set_option maxRecDepth 16384

noncomputable section

open Idealize.ShloMosaic Idealize.ShloMosaic.Tactic

namespace Cert.KernelIdeal.Front

open Cert.KernelIdeal Cert.KernelIdeal.Gen Cert.KernelIdeal.Value Cert.Front

/-- Two offsets of zero. -/
theorem hz2 : (![0, 0] : Fin 2 → Nat) = fun _ => 0 := funext fun a => by fin_cases a <;> rfl
/-- Three offsets of zero. -/
theorem hz3 : (![0, 0, 0] : Fin 3 → Nat) = fun _ => 0 := funext fun a => by fin_cases a <;> rfl

/-- A load of the whole buffer holding `X` is `X`. -/
theorem whole_read {sp : Space} {S : Shape} {e : EltTy} (mm : Memref sig .tc sp S e) (h : mm.IsWhole) (X : S.Idx → Elt Ideal e)
    {off : Fin S.rank → Nat} (hz : off = fun _ => 0) (inb : ∀ a, off a + S.size a ≤ S.size a) :
    mm.view.readAt (Elt Ideal) (Rect.unit off S.size inb).toLoadRect (h.unread X) = X := by
  rw [View.readAt_eq_ld, h.read_unread, View.ld_unit_zero hz]

/-- The 64 groups fill the 512 rows. -/
theorem groups_fill (A B : FVec Ideal S64x8x512 .f32) (c : FVec Ideal S1x512 .f32) :
    Shape.Concatenates (((List.range 64).map fun g => (⟨S8x512, grp A B c g⟩ : (s : Shape) × (s.Idx → Ideal .f32))).map (·.1)) S512x512 0 :=
  concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S512x512_d0

section
variable (x0 : FVec Ideal S1x512x1024 .f32) (x1 x2 : FVec Ideal S1x1x1024 .f32) (x3 : FVec Ideal S1x1024 .f32)
  (x4 : FVec Ideal S1024x1792 .bf16) (x5 : FVec Ideal S4x512 .f32) (x6 : FVec Ideal S1x512 .f32) (x7 : FVec Ideal S512x1024 .bf16)
  (x8 : FVec Ideal S1x1024 .f32) (x9 : FVec Ideal S1x512 .f32) (tl : FVec Ideal S8x512 .f32) (hc : FVec Ideal S1x512 .f32)

/-- The convolution's values of a block, from the tail left by the block before. -/
def uV : FVec Ideal S512x512 .f32 := k0_pay15 (k0_pay9 x0 x3 x1 x2 x4) tl x5 x6

/-- The values of the scan over a block. -/
def hV : FVec Ideal S512x512 .f32 :=
  stack
    (k0_pay34 (k0_pay25 (k0_pay19 (uV x0 x1 x2 x3 x4 x5 x6 tl) x7 x8) (k0_pay21 x9) (k0_pay22 x9)) rowNo
      (k0_pay27 (k0_pay19 (uV x0 x1 x2 x3 x4 x5 x6 tl) x7 x8) (k0_pay21 x9) (k0_pay22 x9)))
    (k0_pay33 (k0_pay25 (k0_pay19 (uV x0 x1 x2 x3 x4 x5 x6 tl) x7 x8) (k0_pay21 x9) (k0_pay22 x9)) rowNo
      (k0_pay27 (k0_pay19 (uV x0 x1 x2 x3 x4 x5 x6 tl) x7 x8) (k0_pay21 x9) (k0_pay22 x9))
      (k0_pay28 (uV x0 x1 x2 x3 x4 x5 x6 tl) (k0_pay18 (uV x0 x1 x2 x3 x4 x5 x6 tl) x7 x8)
        (k0_pay19 (uV x0 x1 x2 x3 x4 x5 x6 tl) x7 x8) (k0_pay21 x9) (k0_pay22 x9)))
    hc (groups_fill _ _ _)
end

variable (m : (ℓ : Loc nD τ sig) → Buf (Elt Ideal) ℓ) (c : Dev nD)

/-- The convolution's tail a point reads: the previous tail at the first point of a sequence, then the point's before. -/
abbrev tailIn (t : Fin cfg0.N) (s : FVec Ideal S8x512 .f32) : FVec Ideal S8x512 .f32 :=
  if t.val % 4 = 0 then k0_pay6 (F := Ideal) (iblk m c 11 t) else s

/-- The state a point reads: the initial state at the first point of a sequence, then the point's before. -/
abbrev stateIn (t : Fin cfg0.N) (s : FVec Ideal S1x512 .f32) : FVec Ideal S1x512 .f32 :=
  if t.val % 4 = 0 then k0_pay7 (F := Ideal) (iblk m c 12 t) else s

/-- The scan's values at a point. -/
abbrev hAt (t : Fin cfg0.N) (tl : FVec Ideal S8x512 .f32) (hc : FVec Ideal S1x512 .f32) : FVec Ideal S512x512 .f32 :=
  hV (iblk m c 0 t) (iblk m c 1 t) (iblk m c 2 t) (iblk m c 3 t) (iblk m c 4 t) (iblk m c 5 t) (iblk m c 6 t) (iblk m c 7 t)
    (iblk m c 8 t) (iblk m c 9 t) tl hc

set_option maxHeartbeats 1000000 in
/-- A point that begins a sequence. -/
theorem point_A (t : Fin cfg0.N) (acc) (h0 : t.val % 4 = 0) (h1 : ¬t.val % 4 = 3) :
    (stAt0 m c t.val t.isLt acc).1 = k0_pay3 (F := Ideal) (k0_pay10 (iblk m c 0 t) (iblk m c 3 t) (iblk m c 1 t) (iblk m c 2 t) (iblk m c 4 t)) (hAt m c t (tailIn m c t acc.2.2.2.2.2.2.1) (stateIn m c t acc.2.2.2.2.2.2.2))
    ∧ (stAt0 m c t.val t.isLt acc).2.1 = k0_pay12 (F := Ideal) (k0_pay11 (iblk m c 0 t) (iblk m c 3 t) (iblk m c 1 t) (iblk m c 2 t) (iblk m c 4 t))
    ∧ (stAt0 m c t.val t.isLt acc).2.2.1 = k0_pay13 (F := Ideal) (k0_pay8 (iblk m c 0 t) (iblk m c 3 t) (iblk m c 1 t) (iblk m c 2 t) (iblk m c 4 t)) (iblk m c 10 t)
    ∧ (stAt0 m c t.val t.isLt acc).2.2.2.1 = k0_pay14 (F := Ideal) (k0_pay8 (iblk m c 0 t) (iblk m c 3 t) (iblk m c 1 t) (iblk m c 2 t) (iblk m c 4 t))
    ∧ (stAt0 m c t.val t.isLt acc).2.2.2.2.2.2.1 = k0_pay16 (F := Ideal) (k0_pay9 (iblk m c 0 t) (iblk m c 3 t) (iblk m c 1 t) (iblk m c 2 t) (iblk m c 4 t))
    ∧ (stAt0 m c t.val t.isLt acc).2.2.2.2.2.2.2 = k0_pay2 (F := Ideal) (hAt m c t (tailIn m c t acc.2.2.2.2.2.2.1) (stateIn m c t acc.2.2.2.2.2.2.2)) := by
  rw [stAt0_A m c t acc h0 h1]
  unfold tailIn stateIn
  simp only [if_pos h0]
  refine ⟨?_, ?_, ?_, ?_, ?_, ?_⟩
  · refine (View.read_writes_eq_canon _ _ _ (by intro y; exact cover0_A_13 ..)).trans ?_
    unfold kernelRun0_A
    dsimp only
    rw [View.canon_unit_zero hz3]
    refine (congrArg (k0_pay3 (F := Ideal) _) (chain_eq _ _ _ _ _ _ _ _ _ _ _ _ _ _ _ _ _ _ _ rfl rfl rfl rfl rfl rfl rfl rfl rfl rfl rfl rfl rfl rfl _ (groups_fill _ _ _))).trans ?_
    sl_unfold_words
    rw [View.readCov_unit_zero (S := S8x512) _ hz2,
      View.readCov_unit_zero (S := S1x512) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2,
      whole_read (ms0_11 t) (hs0_11 t) (iblk m c 11 t) hz3,
      whole_read (ms0_12 t) (hs0_12 t) (iblk m c 12 t) hz3]
    rfl
  · refine (View.read_writes_eq_canon _ _ _ (by intro y; exact cover0_A_14 ..)).trans ?_
    unfold kernelRun0_A
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact cover0_A_15 ..)).trans ?_
    unfold kernelRun0_A
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_10 t) (hs0_10 t) (iblk m c 10 t) hz2]
  · refine (View.read_writes_eq_canon _ _ _ (by intro y; exact cover0_A_16 ..)).trans ?_
    unfold kernelRun0_A
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact scover0_A_0 ..)).trans ?_
    unfold kernelRun0_A
    dsimp only
    rw [View.canon_cons_unit_zero hz2]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact scover0_A_1 ..)).trans ?_
    unfold kernelRun0_A
    dsimp only
    rw [View.canon_cons_unit_zero hz2]
    refine (congrArg (k0_pay2 (F := Ideal)) (chain_eq _ _ _ _ _ _ _ _ _ _ _ _ _ _ _ _ _ _ _ rfl rfl rfl rfl rfl rfl rfl rfl rfl rfl rfl rfl rfl rfl _ (groups_fill _ _ _))).trans ?_
    sl_unfold_words
    rw [View.readCov_unit_zero (S := S8x512) _ hz2,
      View.readCov_unit_zero (S := S1x512) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2,
      whole_read (ms0_11 t) (hs0_11 t) (iblk m c 11 t) hz3,
      whole_read (ms0_12 t) (hs0_12 t) (iblk m c 12 t) hz3]
    rfl

set_option maxHeartbeats 1000000 in
/-- A point in the middle of a sequence. -/
theorem point_B (t : Fin cfg0.N) (acc) (h0 : ¬t.val % 4 = 0) (h1 : ¬t.val % 4 = 3) :
    (stAt0 m c t.val t.isLt acc).1 = k0_pay3 (F := Ideal) (k0_pay10 (iblk m c 0 t) (iblk m c 3 t) (iblk m c 1 t) (iblk m c 2 t) (iblk m c 4 t)) (hAt m c t (tailIn m c t acc.2.2.2.2.2.2.1) (stateIn m c t acc.2.2.2.2.2.2.2))
    ∧ (stAt0 m c t.val t.isLt acc).2.1 = k0_pay12 (F := Ideal) (k0_pay11 (iblk m c 0 t) (iblk m c 3 t) (iblk m c 1 t) (iblk m c 2 t) (iblk m c 4 t))
    ∧ (stAt0 m c t.val t.isLt acc).2.2.1 = k0_pay13 (F := Ideal) (k0_pay8 (iblk m c 0 t) (iblk m c 3 t) (iblk m c 1 t) (iblk m c 2 t) (iblk m c 4 t)) (iblk m c 10 t)
    ∧ (stAt0 m c t.val t.isLt acc).2.2.2.1 = k0_pay14 (F := Ideal) (k0_pay8 (iblk m c 0 t) (iblk m c 3 t) (iblk m c 1 t) (iblk m c 2 t) (iblk m c 4 t))
    ∧ (stAt0 m c t.val t.isLt acc).2.2.2.2.2.2.1 = k0_pay16 (F := Ideal) (k0_pay9 (iblk m c 0 t) (iblk m c 3 t) (iblk m c 1 t) (iblk m c 2 t) (iblk m c 4 t))
    ∧ (stAt0 m c t.val t.isLt acc).2.2.2.2.2.2.2 = k0_pay2 (F := Ideal) (hAt m c t (tailIn m c t acc.2.2.2.2.2.2.1) (stateIn m c t acc.2.2.2.2.2.2.2)) := by
  rw [stAt0_B m c t acc h0 h1]
  unfold tailIn stateIn
  simp only [if_neg h0]
  refine ⟨?_, ?_, ?_, ?_, ?_, ?_⟩
  · refine (View.read_writes_eq_canon _ _ _ (by intro y; exact cover0_B_13 ..)).trans ?_
    unfold kernelRun0_B
    dsimp only
    rw [View.canon_unit_zero hz3]
    refine (congrArg (k0_pay3 (F := Ideal) _) (chain_eq _ _ _ _ _ _ _ _ _ _ _ _ _ _ _ _ _ _ _ rfl rfl rfl rfl rfl rfl rfl rfl rfl rfl rfl rfl rfl rfl _ (groups_fill _ _ _))).trans ?_
    sl_unfold_words
    rw [whole_read scM0_0 (Memref.isWhole_whole _) _ hz2,
      whole_read scM0_1 (Memref.isWhole_whole _) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2]
    rfl
  · refine (View.read_writes_eq_canon _ _ _ (by intro y; exact cover0_B_14 ..)).trans ?_
    unfold kernelRun0_B
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact cover0_B_15 ..)).trans ?_
    unfold kernelRun0_B
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_10 t) (hs0_10 t) (iblk m c 10 t) hz2]
  · refine (View.read_writes_eq_canon _ _ _ (by intro y; exact cover0_B_16 ..)).trans ?_
    unfold kernelRun0_B
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact scover0_B_0 ..)).trans ?_
    unfold kernelRun0_B
    dsimp only
    rw [View.canon_unit_zero hz2]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact scover0_B_1 ..)).trans ?_
    unfold kernelRun0_B
    dsimp only
    rw [View.canon_unit_zero hz2]
    refine (congrArg (k0_pay2 (F := Ideal)) (chain_eq _ _ _ _ _ _ _ _ _ _ _ _ _ _ _ _ _ _ _ rfl rfl rfl rfl rfl rfl rfl rfl rfl rfl rfl rfl rfl rfl _ (groups_fill _ _ _))).trans ?_
    sl_unfold_words
    rw [whole_read scM0_0 (Memref.isWhole_whole _) _ hz2,
      whole_read scM0_1 (Memref.isWhole_whole _) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2]
    rfl

set_option maxHeartbeats 1000000 in
/-- A point that ends a sequence. -/
theorem point_C (t : Fin cfg0.N) (acc) (h0 : ¬t.val % 4 = 0) (h1 : t.val % 4 = 3) :
    (stAt0 m c t.val t.isLt acc).1 = k0_pay3 (F := Ideal) (k0_pay10 (iblk m c 0 t) (iblk m c 3 t) (iblk m c 1 t) (iblk m c 2 t) (iblk m c 4 t)) (hAt m c t (tailIn m c t acc.2.2.2.2.2.2.1) (stateIn m c t acc.2.2.2.2.2.2.2))
    ∧ (stAt0 m c t.val t.isLt acc).2.1 = k0_pay12 (F := Ideal) (k0_pay11 (iblk m c 0 t) (iblk m c 3 t) (iblk m c 1 t) (iblk m c 2 t) (iblk m c 4 t))
    ∧ (stAt0 m c t.val t.isLt acc).2.2.1 = k0_pay13 (F := Ideal) (k0_pay8 (iblk m c 0 t) (iblk m c 3 t) (iblk m c 1 t) (iblk m c 2 t) (iblk m c 4 t)) (iblk m c 10 t)
    ∧ (stAt0 m c t.val t.isLt acc).2.2.2.1 = k0_pay14 (F := Ideal) (k0_pay8 (iblk m c 0 t) (iblk m c 3 t) (iblk m c 1 t) (iblk m c 2 t) (iblk m c 4 t))
    ∧ (stAt0 m c t.val t.isLt acc).2.2.2.2.1 = k0_pay4 (F := Ideal) (k0_pay9 (iblk m c 0 t) (iblk m c 3 t) (iblk m c 1 t) (iblk m c 2 t) (iblk m c 4 t))
    ∧ (stAt0 m c t.val t.isLt acc).2.2.2.2.2.1 = k0_pay5 (F := Ideal) (hAt m c t (tailIn m c t acc.2.2.2.2.2.2.1) (stateIn m c t acc.2.2.2.2.2.2.2))
    ∧ (stAt0 m c t.val t.isLt acc).2.2.2.2.2.2.1 = k0_pay16 (F := Ideal) (k0_pay9 (iblk m c 0 t) (iblk m c 3 t) (iblk m c 1 t) (iblk m c 2 t) (iblk m c 4 t))
    ∧ (stAt0 m c t.val t.isLt acc).2.2.2.2.2.2.2 = k0_pay2 (F := Ideal) (hAt m c t (tailIn m c t acc.2.2.2.2.2.2.1) (stateIn m c t acc.2.2.2.2.2.2.2)) := by
  rw [stAt0_C m c t acc h0 h1]
  unfold tailIn stateIn
  simp only [if_neg h0]
  refine ⟨?_, ?_, ?_, ?_, ?_, ?_, ?_, ?_⟩
  · refine (View.read_writes_eq_canon _ _ _ (by intro y; exact cover0_C_13 ..)).trans ?_
    unfold kernelRun0_C
    dsimp only
    rw [View.canon_unit_zero hz3]
    refine (congrArg (k0_pay3 (F := Ideal) _) (chain_eq _ _ _ _ _ _ _ _ _ _ _ _ _ _ _ _ _ _ _ rfl rfl rfl rfl rfl rfl rfl rfl rfl rfl rfl rfl rfl rfl _ (groups_fill _ _ _))).trans ?_
    sl_unfold_words
    rw [whole_read scM0_0 (Memref.isWhole_whole _) _ hz2,
      whole_read scM0_1 (Memref.isWhole_whole _) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2]
    rfl
  · refine (View.read_writes_eq_canon _ _ _ (by intro y; exact cover0_C_14 ..)).trans ?_
    unfold kernelRun0_C
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact cover0_C_15 ..)).trans ?_
    unfold kernelRun0_C
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_10 t) (hs0_10 t) (iblk m c 10 t) hz2]
  · refine (View.read_writes_eq_canon _ _ _ (by intro y; exact cover0_C_16 ..)).trans ?_
    unfold kernelRun0_C
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact cover0_C_17 ..)).trans ?_
    unfold kernelRun0_C
    dsimp only
    rw [View.canon_unit_zero hz3]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact cover0_C_18 ..)).trans ?_
    unfold kernelRun0_C
    dsimp only
    rw [View.canon_unit_zero hz3]
    refine (congrArg (k0_pay5 (F := Ideal)) (chain_eq _ _ _ _ _ _ _ _ _ _ _ _ _ _ _ _ _ _ _ rfl rfl rfl rfl rfl rfl rfl rfl rfl rfl rfl rfl rfl rfl _ (groups_fill _ _ _))).trans ?_
    sl_unfold_words
    rw [whole_read scM0_0 (Memref.isWhole_whole _) _ hz2,
      whole_read scM0_1 (Memref.isWhole_whole _) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2]
    rfl
  · refine (View.read_writes_eq_canon _ _ _ (by intro y; exact scover0_C_0 ..)).trans ?_
    unfold kernelRun0_C
    dsimp only
    rw [View.canon_unit_zero hz2]
    sl_unfold_words
    rw [whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2]
  · refine (View.read_writes_eq_canon _ _ _ (by intro y; exact scover0_C_1 ..)).trans ?_
    unfold kernelRun0_C
    dsimp only
    rw [View.canon_unit_zero hz2]
    refine (congrArg (k0_pay2 (F := Ideal)) (chain_eq _ _ _ _ _ _ _ _ _ _ _ _ _ _ _ _ _ _ _ rfl rfl rfl rfl rfl rfl rfl rfl rfl rfl rfl rfl rfl rfl _ (groups_fill _ _ _))).trans ?_
    sl_unfold_words
    rw [whole_read scM0_0 (Memref.isWhole_whole _) _ hz2,
      whole_read scM0_1 (Memref.isWhole_whole _) _ hz2,
      whole_read (ms0_0 t) (hs0_0 t) (iblk m c 0 t) hz3,
      whole_read (ms0_1 t) (hs0_1 t) (iblk m c 1 t) hz3,
      whole_read (ms0_2 t) (hs0_2 t) (iblk m c 2 t) hz3,
      whole_read (ms0_3 t) (hs0_3 t) (iblk m c 3 t) hz2,
      whole_read (ms0_4 t) (hs0_4 t) (iblk m c 4 t) hz2,
      whole_read (ms0_5 t) (hs0_5 t) (iblk m c 5 t) hz2,
      whole_read (ms0_6 t) (hs0_6 t) (iblk m c 6 t) hz2,
      whole_read (ms0_7 t) (hs0_7 t) (iblk m c 7 t) hz2,
      whole_read (ms0_8 t) (hs0_8 t) (iblk m c 8 t) hz2,
      whole_read (ms0_9 t) (hs0_9 t) (iblk m c 9 t) hz2]
    rfl

end Cert.KernelIdeal.Front
-- ==== Proof.KHost.lean ====
/- The arrays the host hands to the kernel, and the blocks a grid point reads of them, at an index. -/
module

public import proofs.«01_k».proof.Proof.Seq
public import proofs.«01_k».proof.Proof.KOpen
public import Idealize.ShloMosaic.Lib.StableHlo.RunRead
public import Idealize.ShloMosaic.Lib.Pipeline.ValueKit.Geometry

@[expose] public section

set_option maxRecDepth 16384

noncomputable section

open Idealize.ShloMosaic Idealize.ShloMosaic.Tactic Idealize.ShloMosaic.TcCoe

namespace Cert.KernelIdeal.Front

open Cert.KernelIdeal Cert.KernelIdeal.Gen Cert.KernelIdeal.Value Cert.Front

variable (m : (ℓ : Loc nD τ sig) → Buf (Elt Ideal) ℓ) (c : Dev nD)

/-- The kernel's arguments as the front's inputs. -/
def inp : Inp where
  x b t k := m ((c : Thread nD τ).loc main_arg0) (ix3 b t k)
  sh b k := m ((c : Thread nD τ).loc main_arg1) (ix3 b 0 k)
  sc b k := m ((c : Thread nD τ).loc main_arg2) (ix3 b 0 k)
  g k := m ((c : Thread nD τ).loc main_arg3) (ix2 0 k)
  w k e := m ((c : Thread nD τ).loc main_arg4) (ix3 0 k e)
  cw j n := m ((c : Thread nD τ).loc main_arg5) (ix3 0 j n)
  cb n := m ((c : Thread nD τ).loc main_arg6) (ix2 0 n)
  ga a i j := m ((c : Thread nD τ).loc main_arg7) (ix4 0 a i j)
  gab n := m ((c : Thread nD τ).loc main_arg8) (ix2 0 n)
  gx a i j := m ((c : Thread nD τ).loc main_arg9) (ix4 0 a i j)
  gxb n := m ((c : Thread nD τ).loc main_arg10) (ix2 0 n)
  lam n := m ((c : Thread nD τ).loc main_arg11) (ix2 0 n)
  kn j := m ((c : Thread nD τ).loc main_arg12) (ix2 0 j)

/-- Equal words compare to the word one and others to zero, so their ideal is one or zero. -/
theorem eye_word (i j : ℕ) (hi : i < 8) (hj : j < 8) :
    @Eq EReal (FloatOps.uitofp (F := Ideal) FTy.f32 (IntOp.cmpi CmpIPredicate.eq (IntOp.addi (BitVec.ofNat 32 i) 0#32) (BitVec.ofNat 32 j)))
      (if i = j then 1 else 0) := by
  have h : IntOp.cmpi CmpIPredicate.eq (IntOp.addi (BitVec.ofNat 32 i) 0#32) (BitVec.ofNat 32 j) = if i = j then 1#1 else 0#1 := by
    interval_cases i <;> interval_cases j <;> rfl
  rw [h]
  split_ifs
  · show (((1#1).toNat : ℝ) : EReal) = 1
    simp
  · show (((0#1).toNat : ℝ) : EReal) = 0
    simp

/-- The scale of the norm. -/
theorem host_g (k : Fin 1024) : @Eq EReal (V m c main_v1 (ix2 0 k)) (m ((c : Thread nD τ).loc main_arg3) (ix2 0 k)) := by
  entry_read
  pointwise

/-- The convolution's weights. -/
theorem host_cw (j : Fin 4) (n : Fin 512) : @Eq EReal (V m c main_v11 (ix2 j n)) (m ((c : Thread nD τ).loc main_arg5) (ix3 0 j n)) := by
  entry_read
  pointwise

/-- The convolution's bias. -/
theorem host_cb (n : Fin 512) : @Eq EReal (V m c main_v13 (ix2 0 n)) (m ((c : Thread nD τ).loc main_arg6) (ix2 0 n)) := by
  entry_read
  pointwise

/-- A column of the gates' matrix is the product of a weight and a comparison of the blocks (first gate). -/
theorem host_wg_a_of (k : Fin 512) (e : Fin 1024) (he : e.val < 512) (y : EReal)
    (hy : @Eq EReal (@HMul.hMul EReal EReal EReal _ (m ((c : Thread nD τ).loc main_arg7) (ix4 0 (⟨k.val / 64, by omega⟩ : Fin 8) (⟨k.val % 64, by omega⟩ : Fin 64) (⟨e.val % 64, by omega⟩ : Fin 64)))
      (FloatOps.uitofp (F := Ideal) FTy.f32 (IntOp.cmpi CmpIPredicate.eq (IntOp.addi (BitVec.ofNat 32 (k.val / 64)) 0#32) (BitVec.ofNat 32 (e.val / 64))))) y) :
    @Eq EReal (V m c main_v35 (ix2 k e)) y := by
  entry_read
  pointwise
  rw [dif_pos he]
  exact hy

/-- The gates' weights as one matrix, zero off the blocks of 64: the first gate's half. -/
theorem host_wg_a (k n : Fin 512) : @Eq EReal (V m c main_v35 (ix2 k (⟨n.val, by omega⟩ : Fin 1024))) (@HMul.hMul EReal EReal EReal _ (m ((c : Thread nD τ).loc main_arg7) (ix4 0 (⟨k.val / 64, by omega⟩ : Fin 8) (⟨k.val % 64, by omega⟩ : Fin 64) (⟨n.val % 64, by omega⟩ : Fin 64))) (if k.val / 64 = n.val / 64 then (1 : EReal) else 0)) := by
  refine host_wg_a_of m c k _ (by simp) _ ?_
  simp only [Nat.add_sub_cancel_left]
  rw [eye_word _ _ (by omega) (by omega)]

/-- A column of the gates' matrix is the product of a weight and a comparison of the blocks (second gate). -/
theorem host_wg_x_of (k : Fin 512) (e : Fin 1024) (he : ¬ e.val < 512) (y : EReal)
    (hy : @Eq EReal (@HMul.hMul EReal EReal EReal _ (m ((c : Thread nD τ).loc main_arg9) (ix4 0 (⟨k.val / 64, by omega⟩ : Fin 8) (⟨k.val % 64, by omega⟩ : Fin 64) (⟨(e.val - 512) % 64, by omega⟩ : Fin 64)))
      (FloatOps.uitofp (F := Ideal) FTy.f32 (IntOp.cmpi CmpIPredicate.eq (IntOp.addi (BitVec.ofNat 32 (k.val / 64)) 0#32) (BitVec.ofNat 32 ((e.val - 512) / 64))))) y) :
    @Eq EReal (V m c main_v35 (ix2 k e)) y := by
  entry_read
  pointwise
  rw [dif_neg he]
  exact hy

/-- The second gate's half of that matrix. -/
theorem host_wg_x (k n : Fin 512) : @Eq EReal (V m c main_v35 (ix2 k (⟨512 + n.val, by omega⟩ : Fin 1024))) (@HMul.hMul EReal EReal EReal _ (m ((c : Thread nD τ).loc main_arg9) (ix4 0 (⟨k.val / 64, by omega⟩ : Fin 8) (⟨k.val % 64, by omega⟩ : Fin 64) (⟨n.val % 64, by omega⟩ : Fin 64))) (if k.val / 64 = n.val / 64 then (1 : EReal) else 0)) := by
  refine host_wg_x_of m c k _ (by simp) _ ?_
  simp only [Nat.add_sub_cancel_left]
  rw [eye_word _ _ (by omega) (by omega)]

/-- The gates' biases side by side: the first's half. -/
theorem host_gb_a (n : Fin 512) : @Eq EReal (V m c main_v39 (ix2 0 (⟨n.val, by omega⟩ : Fin 1024))) (m ((c : Thread nD τ).loc main_arg8) (ix2 0 n)) := by
  entry_read
  pointwise

/-- The second's half. -/
theorem host_gb_x (n : Fin 512) : @Eq EReal (V m c main_v39 (ix2 0 (⟨512 + n.val, by omega⟩ : Fin 1024))) (m ((c : Thread nD τ).loc main_arg10) (ix2 0 n)) := by
  entry_read
  pointwise

/-- The decay's parameter. -/
theorem host_lam (n : Fin 512) : @Eq EReal (V m c main_v41 (ix2 0 n)) (m ((c : Thread nD τ).loc main_arg11) (ix2 0 n)) := by
  entry_read
  pointwise

/-- The keys' scale, given for one head and repeated for both. -/
theorem host_kn (l : Fin 128) : @Eq EReal (V m c main_v46 (ix2 0 l)) (m ((c : Thread nD τ).loc main_arg12) (ix2 0 (⟨l.val % 64, by omega⟩ : Fin 64))) := by
  entry_read
  pointwise

/-- Zero rows before the sequence. -/
theorem host_tail (b : Fin 8) (r : Fin 8) (n : Fin 512) : @Eq EReal (V m c main_v47 (ix3 b r n)) (0) := by
  entry_read
  pointwise

/-- A zero state before the sequence. -/
theorem host_h0 (b : Fin 8) (n : Fin 512) : @Eq EReal (V m c main_v48 (ix3 b 0 n)) (0) := by
  entry_read
  pointwise

/-- The kernel's projection matrix, by the column's range. -/
theorem host_w_of (k : Fin 1024) (e : Fin 1792) (y : EReal)
    (hy : @Eq EReal (if h : e.val < 1024 then m ((c : Thread nD τ).loc main_arg4) (ix3 0 k e) else
      if h : e.val - 1024 < 512 then m ((c : Thread nD τ).loc main_arg4)
        (ix3 0 k (⟨1024 + ((e.val - 1024) / 64 % 2 * 256 + (e.val - 1024) / 128 * 64 + (e.val - 1024) % 64), by omega⟩ : Fin 1792))
      else m ((c : Thread nD τ).loc main_arg4) (ix3 0 k (⟨1536 + (e.val - 1024 - 512), by omega⟩ : Fin 1792))) y) :
    @Eq EReal (V m c main_v10 (ix2 k e)) y := by
  show @Eq EReal (StableHlo.after Gen.hostOps0 (fun b => m (c, b)) (Proc.devRef .tc main_v10) (ix2 k e)) y
  after_reads_simp
  pointwise
  after_reads_simp
  pointwise
  exact hy

/-- Its first columns are the given matrix's. -/
theorem host_w_low (k : Fin 1024) (e : Fin 1792) (he : e.val < 1024) : @Eq EReal (V m c main_v10 (ix2 k e)) ((inp m c).w k e) := by
  refine host_w_of m c k e _ ?_
  rw [dif_pos he]
  rfl

/-- Its queries are the given matrix's, a group's heads side by side. -/
theorem host_w_q (k : Fin 1024) (n : Fin 512) : @Eq EReal (V m c main_v10 (ix2 k (⟨1024 + n.val, by omega⟩ : Fin 1792)))
    ((inp m c).w k ⟨1024 + (256 * (n.val / 64 % 2) + 64 * (n.val / 128) + n.val % 64), by omega⟩) := by
  refine host_w_of m c k _ _ ?_
  rw [dif_neg (by simp), dif_pos (by simp)]
  refine congrArg (fun e => m ((c : Thread nD τ).loc main_arg4) (ix3 0 k e)) (Fin.ext ?_)
  simp only [Nat.add_sub_cancel_left]
  omega

/-- Its last columns are the given matrix's. -/
theorem host_w_high (k : Fin 1024) (e : Fin 1792) (he : 1536 ≤ e.val) : @Eq EReal (V m c main_v10 (ix2 k e)) ((inp m c).w k e) := by
  refine host_w_of m c k e _ ?_
  rw [dif_neg (by omega), dif_neg (by omega)]
  refine congrArg (fun e => m ((c : Thread nD τ).loc main_arg4) (ix3 0 k e)) (Fin.ext ?_)
  show 1536 + (e.val - 1024 - 512) = e.val
  omega

/-- Each window's block index at a point. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val / 4, 0, 0] ∧ win0_12.index t = ![t.val / 4, 0, 0] :=
  (by decide +kernel : ∀ t : Fin grid0.N, _)

/-- There are 32 points. -/
theorem pt_lt (t : Fin cfg0.N) : t.val < 32 := lt_of_lt_of_eq t.isLt N_0

/-- The sequence a point works on. -/
def bt (t : Fin cfg0.N) : Fin 8 := ⟨t.val / 4, by have := pt_lt t; omega⟩

/-- The position of row `r` of a point's block. -/
def pos (t : Fin cfg0.N) (r : Fin 512) : Fin 2048 := ⟨512 * (t.val % 4) + r.val, by omega⟩

/-- A row of a point's block. -/
theorem blk_x (t : Fin cfg0.N) (r : Fin 512) (k : Fin 1024) : @Eq EReal (iblk m c 0 t (ix3 0 r k)) ((inp m c).x (bt t) (pos t r) k) := by
  have h1 := pt_lt t
  blk_ext [iblk, V, idx t, bt, pos, inp]

/-- Its sequence's scale. -/
theorem blk_sc (t : Fin cfg0.N) (k : Fin 1024) : @Eq EReal (iblk m c 1 t (ix3 0 0 k)) ((inp m c).sc (bt t) k) := by
  have h1 := pt_lt t
  blk_ext [iblk, V, idx t, bt, pos, inp]

/-- Its sequence's shift. -/
theorem blk_sh (t : Fin cfg0.N) (k : Fin 1024) : @Eq EReal (iblk m c 2 t (ix3 0 0 k)) ((inp m c).sh (bt t) k) := by
  have h1 := pt_lt t
  blk_ext [iblk, V, idx t, bt, pos, inp]

/-- The norm's scale. -/
theorem blk_g (t : Fin cfg0.N) (k : Fin 1024) : @Eq EReal (iblk m c 3 t (ix2 0 k)) ((inp m c).g k) := by
  skip
  refine Eq.trans (b := (V m c main_v1 (ix2 0 k) : EReal)) ?_ (host_g m c k)
  blk_ext [iblk, idx t, bt]

/-- The projection's matrix. -/
theorem blk_w (t : Fin cfg0.N) (k : Fin 1024) (e : Fin 1792) : @Eq EReal (iblk m c 4 t (ix2 k e)) (V m c main_v10 (ix2 k e)) := by
  skip
  refine Eq.trans (b := (V m c main_v10 (ix2 k e) : EReal)) ?_ (rfl)
  blk_ext [iblk, idx t, bt]

/-- The convolution's weights. -/
theorem blk_cw (t : Fin cfg0.N) (j : Fin 4) (n : Fin 512) : @Eq EReal (iblk m c 5 t (ix2 j n)) ((inp m c).cw j n) := by
  skip
  refine Eq.trans (b := (V m c main_v11 (ix2 j n) : EReal)) ?_ (host_cw m c j n)
  blk_ext [iblk, idx t, bt]

/-- The convolution's bias. -/
theorem blk_cb (t : Fin cfg0.N) (n : Fin 512) : @Eq EReal (iblk m c 6 t (ix2 0 n)) ((inp m c).cb n) := by
  skip
  refine Eq.trans (b := (V m c main_v13 (ix2 0 n) : EReal)) ?_ (host_cb m c n)
  blk_ext [iblk, idx t, bt]

/-- The gates' matrix. -/
theorem blk_wg (t : Fin cfg0.N) (k : Fin 512) (e : Fin 1024) : @Eq EReal (iblk m c 7 t (ix2 k e)) (V m c main_v35 (ix2 k e)) := by
  skip
  refine Eq.trans (b := (V m c main_v35 (ix2 k e) : EReal)) ?_ (rfl)
  blk_ext [iblk, idx t, bt]

/-- The gates' biases. -/
theorem blk_gb (t : Fin cfg0.N) (e : Fin 1024) : @Eq EReal (iblk m c 8 t (ix2 0 e)) (V m c main_v39 (ix2 0 e)) := by
  skip
  refine Eq.trans (b := (V m c main_v39 (ix2 0 e) : EReal)) ?_ (rfl)
  blk_ext [iblk, idx t, bt]

/-- The decay's parameter. -/
theorem blk_lam (t : Fin cfg0.N) (n : Fin 512) : @Eq EReal (iblk m c 9 t (ix2 0 n)) ((inp m c).lam n) := by
  skip
  refine Eq.trans (b := (V m c main_v41 (ix2 0 n) : EReal)) ?_ (host_lam m c n)
  blk_ext [iblk, idx t, bt]

/-- The keys' scale. -/
theorem blk_kn (t : Fin cfg0.N) (l : Fin 128) : @Eq EReal (iblk m c 10 t (ix2 0 l)) ((inp m c).kn ⟨l.val % 64, by omega⟩) := by
  skip
  refine Eq.trans (b := (V m c main_v46 (ix2 0 l) : EReal)) ?_ (host_kn m c l)
  blk_ext [iblk, idx t, bt]

/-- The rows before the sequence. -/
theorem blk_tail (t : Fin cfg0.N) (r : Fin 8) (n : Fin 512) : @Eq EReal (iblk m c 11 t (ix3 0 r n)) (0) := by
  have h1 := pt_lt t
  refine Eq.trans (b := (V m c main_v47 (ix3 (bt t) r n) : EReal)) ?_ (host_tail m c (bt t) r n)
  blk_ext [iblk, idx t, bt]

/-- The state before the sequence. -/
theorem blk_h0 (t : Fin cfg0.N) (n : Fin 512) : @Eq EReal (iblk m c 12 t (ix3 0 0 n)) (0) := by
  have h1 := pt_lt t
  refine Eq.trans (b := (V m c main_v48 (ix3 (bt t) 0 n) : EReal)) ?_ (host_h0 m c (bt t) n)
  blk_ext [iblk, idx t, bt]

end Cert.KernelIdeal.Front
-- ==== Proof.KSeq.lean ====
/- The values of a point's block are the formulas at the positions of the block. -/
module

public import proofs.«01_k».proof.Proof.KHost

@[expose] public section

set_option maxRecDepth 16384

noncomputable section

open Idealize.ShloMosaic Idealize.ShloMosaic.Tactic Idealize.ShloMosaic.TcCoe

namespace Cert.KernelIdeal.Front

open Cert.KernelIdeal Cert.KernelIdeal.Gen Cert.KernelIdeal.Value Cert.Front

section
variable (x : FVec Ideal S1x512x1024 .f32) (g : FVec Ideal S1x1024 .f32) (sc sh : FVec Ideal S1x1x1024 .f32)
  (w : FVec Ideal S1024x1792 .bf16)

/-- The recurrent branch is the projection's first 512 columns. -/
theorem pay9_apply (r n : Fin 512) : @Eq EReal (k0_pay9 (F := Ideal) x g sc sh w (ix2 r n)) (k0_pay8 (F := Ideal) x g sc sh w (ix2 r (⟨n.val, by omega⟩ : Fin 1792))) := by
  unfold k0_pay9
  generalize k0_pay8 (F := Ideal) x g sc sh w = p
  pointwise

/-- The gate branch is the next 512 columns. -/
theorem pay10_apply (r n : Fin 512) : @Eq EReal (k0_pay10 (F := Ideal) x g sc sh w (ix2 r n)) (k0_pay8 (F := Ideal) x g sc sh w (ix2 r (⟨512 + n.val, by omega⟩ : Fin 1792))) := by
  unfold k0_pay10
  generalize k0_pay8 (F := Ideal) x g sc sh w = p
  pointwise

/-- The queries are the next 512 columns. -/
theorem pay11_apply (r n : Fin 512) : @Eq EReal (k0_pay11 (F := Ideal) x g sc sh w (ix2 r n)) (k0_pay8 (F := Ideal) x g sc sh w (ix2 r (⟨1024 + n.val, by omega⟩ : Fin 1792))) := by
  unfold k0_pay11
  generalize k0_pay8 (F := Ideal) x g sc sh w = p
  pointwise
end

/-- The queries stored. -/
theorem pay12_apply (q : FVec Ideal S512x512 .f32) (r n : Fin 512) : @Eq EReal (k0_pay12 (F := Ideal) q (ix3 0 r n)) (q (ix2 r n)) := by
  pointwise [k0_pay12]
/-- The values stored. -/
theorem pay14_apply (p : FVec Ideal S512x1792 .f32) (r : Fin 512) (l : Fin 128) :
    @Eq EReal (k0_pay14 (F := Ideal) p (ix3 0 r l)) (p (ix2 r (⟨1664 + l.val, by omega⟩ : Fin 1792))) := by
  pointwise [k0_pay14]
/-- The tail kept. -/
theorem pay16_apply (p : FVec Ideal S512x512 .f32) (r : Fin 8) (n : Fin 512) :
    @Eq EReal (k0_pay16 (F := Ideal) p (ix2 r n)) (p (ix2 (⟨504 + r.val, by omega⟩ : Fin 512) n)) := by
  pointwise [k0_pay16]
/-- The tail stored. -/
theorem pay4_apply (p : FVec Ideal S512x512 .f32) (r : Fin 8) (n : Fin 512) :
    @Eq EReal (k0_pay4 (F := Ideal) p (ix3 0 r n)) (p (ix2 (⟨504 + r.val, by omega⟩ : Fin 512) n)) := by
  pointwise [k0_pay4]
/-- The state kept. -/
theorem pay2_apply (h : FVec Ideal S512x512 .f32) (n : Fin 512) :
    @Eq EReal (k0_pay2 (F := Ideal) h (ix2 0 n)) (h (ix2 (⟨511, by omega⟩ : Fin 512) n)) := by
  pointwise [k0_pay2]
/-- The state stored. -/
theorem pay5_apply (h : FVec Ideal S512x512 .f32) (n : Fin 512) :
    @Eq EReal (k0_pay5 (F := Ideal) h (ix3 0 0 n)) (h (ix2 (⟨511, by omega⟩ : Fin 512) n)) := by
  pointwise [k0_pay5]
/-- The tail loaded. -/
theorem pay6_apply (p : FVec Ideal S1x8x512 .f32) (r : Fin 8) (n : Fin 512) :
    @Eq EReal (k0_pay6 (F := Ideal) p (ix2 r n)) (p (ix3 0 r n)) := by
  pointwise [k0_pay6]
/-- The state loaded. -/
theorem pay7_apply (p : FVec Ideal S1x1x512 .f32) (n : Fin 512) :
    @Eq EReal (k0_pay7 (F := Ideal) p (ix2 0 n)) (p (ix3 0 0 n)) := by
  pointwise [k0_pay7]
/-- The gated output stored. -/
theorem pay3_apply (y h : FVec Ideal S512x512 .f32) (r n : Fin 512) :
    @Eq EReal (k0_pay3 (F := Ideal) y h (ix3 0 r n)) (h (ix2 r n) * gelu (y (ix2 r n))) := by
  pointwise [k0_pay3]
  unfold gelu
  rw [word_half]

/-- A row against a matrix that is zero outside its blocks of 64 is the row's block against the block. -/
theorem dense_sum (u : Fin 512 → EReal) (w : Fin 8 → Fin 64 → Fin 64 → EReal) (n : Fin 512) :
    ∑ k : Fin 512, u k * (w ⟨k.val / 64, by omega⟩ ⟨k.val % 64, by omega⟩ ⟨n.val % 64, by omega⟩ * (if k.val / 64 = n.val / 64 then (1 : EReal) else 0))
      = ∑ j : Fin 64, u ⟨64 * (n.val / 64) + j.val, by omega⟩ * w ⟨n.val / 64, by omega⟩ j ⟨n.val % 64, by omega⟩ := by
  rw [← (finProdFinEquiv (m := 8) (n := 64)).sum_comp, Fintype.sum_prod_type,
    Finset.sum_eq_single (⟨n.val / 64, by omega⟩ : Fin 8)]
  · refine Finset.sum_congr rfl fun j _ => ?_
    have hj := j.isLt
    have e : finProdFinEquiv ((⟨n.val / 64, by omega⟩ : Fin 8), j) = (⟨64 * (n.val / 64) + j.val, by omega⟩ : Fin 512) :=
      Fin.ext (by show j.val + 64 * (n.val / 64) = 64 * (n.val / 64) + j.val; omega)
    have e1 : (⟨(64 * (n.val / 64) + j.val) / 64, by omega⟩ : Fin 8) = ⟨n.val / 64, by omega⟩ := Fin.ext (by show (64 * (n.val / 64) + j.val) / 64 = n.val / 64; omega)
    have e2 : (⟨(64 * (n.val / 64) + j.val) % 64, by omega⟩ : Fin 64) = j := Fin.ext (by show (64 * (n.val / 64) + j.val) % 64 = j.val; omega)
    rw [e]
    dsimp only
    rw [e1, e2, if_pos (by omega), mul_one]
  · intro i _ hi
    refine Finset.sum_eq_zero fun j _ => ?_
    have hj := j.isLt
    have e : (finProdFinEquiv (i, j)).val = j.val + 64 * i.val := rfl
    rw [if_neg (fun h => hi (Fin.ext (by show i.val = n.val / 64; rw [e] at h; omega))), mul_zero, mul_zero]
  · intro h
    exact absurd (Finset.mem_univ _) h

variable (m : (ℓ : Loc nD τ sig) → Buf (Elt Ideal) ℓ) (c : Dev nD)

/-- The projection of a point's block. -/
abbrev pAt (t : Fin cfg0.N) : FVec Ideal S512x1792 .f32 :=
  k0_pay8 (F := Ideal) (iblk m c 0 t) (iblk m c 3 t) (iblk m c 1 t) (iblk m c 2 t) (iblk m c 4 t)

/-- The recurrent branch of a point's block. -/
abbrev xAt (t : Fin cfg0.N) : FVec Ideal S512x512 .f32 :=
  k0_pay9 (F := Ideal) (iblk m c 0 t) (iblk m c 3 t) (iblk m c 1 t) (iblk m c 2 t) (iblk m c 4 t)

/-- A column of it whose weights are those of a given column. -/
theorem pAt_col (t : Fin cfg0.N) (r : Fin 512) (e e' : Fin 1792) (hw : ∀ k, @Eq EReal (V m c main_v10 (ix2 k e)) ((inp m c).w k e')) :
    @Eq EReal (pAt m c t (ix2 r e)) (proj (inp m c) (bt t) (pos t r) e') := by
  refine (pay8_apply _ _ _ _ _ r e).trans ?_
  unfold proj
  refine Finset.sum_congr rfl fun k _ => ?_
  refine congrArg₂ (fun a b : EReal => a * b) ?_ ((blk_w m c t k e).trans (hw k))
  rw [show (fun k => iblk m c 0 t (ix3 0 r k)) = (inp m c).x (bt t) (pos t r) from funext fun k => blk_x m c t r k,
    show (fun k => iblk m c 3 t (ix2 0 k)) = (inp m c).g from funext fun k => blk_g m c t k,
    show (fun k => iblk m c 1 t (ix3 0 0 k)) = (inp m c).sc (bt t) from funext fun k => blk_sc m c t k,
    show (fun k => iblk m c 2 t (ix3 0 0 k)) = (inp m c).sh (bt t) from funext fun k => blk_sh m c t k]

/-- The recurrent branch. -/
theorem xAt_eq (t : Fin cfg0.N) (r n : Fin 512) :
    @Eq EReal (xAt m c t (ix2 r n)) (proj (inp m c) (bt t) (pos t r) ⟨n.val, by omega⟩) :=
  (pay9_apply _ _ _ _ _ r n).trans (pAt_col m c t r _ _ fun k => host_w_low m c k _ (by show n.val < 1024; omega))

/-- The tail a block begins with: zero at a sequence's first block, the last rows of the block before otherwise. -/
def TailOk (t : Fin cfg0.N) (tl : FVec Ideal S8x512 .f32) : Prop :=
  ∀ (r : Fin 8) (n : Fin 512), @Eq EReal (tl (ix2 r n))
    (if t.val % 4 = 0 then 0 else proj (inp m c) (bt t) ⟨512 * (t.val % 4) + r.val - 8, by omega⟩ ⟨n.val, by omega⟩)

/-- The history of a row. -/
theorem hist_eq (t : Fin cfg0.N) (tl : FVec Ideal S8x512 .f32) (htl : TailOk m c t tl) (r n : Fin 512) (s : ℕ) (hs : s ≤ 3) :
    hist (xAt m c t) tl n (r.val + (8 - s)) = back (inp m c) (bt t) (pos t r) n s := by
  have hr := r.isLt
  unfold hist back
  by_cases h : r.val + (8 - s) < 8
  · rw [dif_pos h]
    refine (htl _ n).trans ?_
    by_cases h0 : t.val % 4 = 0
    · rw [if_pos h0]
      exact (if_neg (by show ¬ s ≤ 512 * (t.val % 4) + r.val; omega)).symm
    · rw [if_neg h0]
      refine Eq.trans ?_ (if_pos (by show s ≤ 512 * (t.val % 4) + r.val; omega)).symm
      refine congrArg (fun p => proj (inp m c) (bt t) p ⟨n.val, by omega⟩) (Fin.ext ?_)
      show 512 * (t.val % 4) + (r.val + (8 - s)) - 8 = 512 * (t.val % 4) + r.val - s
      omega
  · rw [dif_neg h, dif_pos (by omega)]
    refine (xAt_eq m c t _ n).trans ?_
    refine Eq.trans ?_ (if_pos (by show s ≤ 512 * (t.val % 4) + r.val; omega)).symm
    refine congrArg (fun p => proj (inp m c) (bt t) p ⟨n.val, by omega⟩) (Fin.ext ?_)
    show 512 * (t.val % 4) + (r.val + (8 - s) - 8) = 512 * (t.val % 4) + r.val - s
    omega

/-- The convolution of a point's block. -/
abbrev uAt (t : Fin cfg0.N) (tl : FVec Ideal S8x512 .f32) : FVec Ideal S512x512 .f32 :=
  uV (iblk m c 0 t) (iblk m c 1 t) (iblk m c 2 t) (iblk m c 3 t) (iblk m c 4 t) (iblk m c 5 t) (iblk m c 6 t) tl

/-- The convolution of a block is that of its positions, when the carried rows are the ones before it. -/
theorem uAt_eq (t : Fin cfg0.N) (tl : FVec Ideal S8x512 .f32) (htl : TailOk m c t tl) (r n : Fin 512) :
    @Eq EReal (uAt m c t tl (ix2 r n)) (conv (inp m c) (bt t) (pos t r) n) := by
  refine (pay15_apply _ _ _ _ r n).trans ?_
  unfold conv
  have h3 := hist_eq m c t tl htl r n 3 (by omega)
  have h2 := hist_eq m c t tl htl r n 2 (by omega)
  have h1 := hist_eq m c t tl htl r n 1 (by omega)
  have h0 := hist_eq m c t tl htl r n 0 (by omega)
  refine Eq.trans (congr (congr (congr (congrArg (conv4 _ _ _ _ _) h3) h2) h1) h0) ?_
  exact congr (congr (congr (congr (congr (congrArg conv4 (blk_cb m c t n)) (blk_cw m c t 0 n)) (blk_cw m c t 1 n)) (blk_cw m c t 2 n)) (blk_cw m c t 3 n)
    |> fun h => congrFun h _ |> fun h => congrFun h _ |> fun h => congrFun h _) rfl

/-- The recurrence gate of a point's block. -/
theorem g19_eq (t : Fin cfg0.N) (tl : FVec Ideal S8x512 .f32) (htl : TailOk m c t tl) (r n : Fin 512) :
    @Eq EReal (k0_pay19 (F := Ideal) (uAt m c t tl) (iblk m c 7 t) (iblk m c 8 t) (ix2 r n))
      (((-8 : ℝ) : EReal) * Ideal.logistic (gatePre (inp m c) (inp m c).ga (inp m c).gab (bt t) (pos t r) n)) := by
  refine (pay19_apply _ _ _ r n).trans ?_
  refine congrArg (fun y : EReal => ((-8 : ℝ) : EReal) * Ideal.logistic y) ?_
  refine congrArg₂ (fun a b : EReal => a + b) ?_ ((blk_gb m c t _).trans (host_gb_a m c n))
  refine Eq.trans (Finset.sum_congr rfl fun k _ => ?_) (dense_sum (fun k => conv (inp m c) (bt t) (pos t r) k) (inp m c).ga n)
  exact congrArg₂ (fun a b : EReal => a * b) (uAt_eq m c t tl htl r k) ((blk_wg m c t k _).trans (host_wg_a m c k n))

/-- The input gate of a point's block. -/
theorem g18_eq (t : Fin cfg0.N) (tl : FVec Ideal S8x512 .f32) (htl : TailOk m c t tl) (r n : Fin 512) :
    @Eq EReal (k0_pay18 (F := Ideal) (uAt m c t tl) (iblk m c 7 t) (iblk m c 8 t) (ix2 r n))
      (Ideal.logistic (gatePre (inp m c) (inp m c).gx (inp m c).gxb (bt t) (pos t r) n)) := by
  refine (pay18_apply _ _ _ r n).trans ?_
  refine congrArg (fun y : EReal => Ideal.logistic y) ?_
  refine congrArg₂ (fun a b : EReal => a + b) ?_ ((blk_gb m c t _).trans (host_gb_x m c n))
  refine Eq.trans (Finset.sum_congr rfl fun k _ => ?_) (dense_sum (fun k => conv (inp m c) (bt t) (pos t r) k) (inp m c).gx n)
  exact congrArg₂ (fun a b : EReal => a * b) (uAt_eq m c t tl htl r k) ((blk_wg m c t k _).trans (host_wg_x m c k n))

/-- The logarithm of the decay over a point's block. -/
theorem l23_eq (t : Fin cfg0.N) (tl : FVec Ideal S8x512 .f32) (htl : TailOk m c t tl) (r n : Fin 512) :
    @Eq EReal (k0_pay23 (F := Ideal) (k0_pay19 (uAt m c t tl) (iblk m c 7 t) (iblk m c 8 t)) (k0_pay21 (iblk m c 9 t)) (k0_pay22 (iblk m c 9 t)) (ix2 r n))
      (logDecay (gatePre (inp m c) (inp m c).ga (inp m c).gab (bt t) (pos t r) n) (-((inp m c).lam n))) := by
  refine (pay23_apply _ _ r n).trans ?_
  exact congrArg₂ (fun a b : EReal => a * softplus (-b)) (g19_eq m c t tl htl r n) (blk_lam m c t n)

/-- The scan over a point's block gives the states at its positions. -/
theorem hAt_eq (t : Fin cfg0.N) (tl : FVec Ideal S8x512 .f32) (htl : TailOk m c t tl) (hc : FVec Ideal S1x512 .f32)
    (hhc : ∀ n : Fin 512, @Eq EReal (hc (ix2 0 n)) (state (inp m c) (bt t) n (512 * (t.val % 4)))) (r n : Fin 512) :
    @Eq EReal (hAt m c t tl hc (ix2 r n)) (state (inp m c) (bt t) n (512 * (t.val % 4) + (r.val + 1))) := by
  refine (scan_apply (uAt m c t tl) (k0_pay18 (uAt m c t tl) (iblk m c 7 t) (iblk m c 8 t))
    (k0_pay19 (uAt m c t tl) (iblk m c 7 t) (iblk m c 8 t)) (k0_pay21 (iblk m c 9 t)) (k0_pay22 (iblk m c 9 t)) hc n
    (fun j => aS (inp m c) (bt t) n (512 * (t.val % 4) + j)) (fun j => dS (inp m c) (bt t) n (512 * (t.val % 4) + j)) ?_ ?_
    (fun j => aS_real _ _ _ _) (groups_fill _ _ _) r).trans ?_
  · intro r
    refine (congrArg Ideal.exp (l23_eq m c t tl htl r n)).trans ?_
    unfold aS
    rw [dif_pos (by omega)]
    rfl
  · intro r
    show ((0 - Ideal.tanh (k0_pay23 (F := Ideal) _ _ _ (ix2 r n))) * (Ideal.exp (k0_pay23 (F := Ideal) _ _ _ (ix2 r n)) * Ideal.exp (k0_pay23 (F := Ideal) _ _ _ (ix2 r n)) + 1))
      * Ideal.rsqrt (max ((0 - Ideal.tanh (k0_pay23 (F := Ideal) _ _ _ (ix2 r n))) * (Ideal.exp (k0_pay23 (F := Ideal) _ _ _ (ix2 r n)) * Ideal.exp (k0_pay23 (F := Ideal) _ _ _ (ix2 r n)) + 1)) ⊥)
      * (k0_pay18 (F := Ideal) _ _ _ (ix2 r n) * uAt m c t tl (ix2 r n)) = _
    rw [l23_eq m c t tl htl r n, factor_eq (logDecay_cases _ _), g18_eq m c t tl htl r n, uAt_eq m c t tl htl r n]
    unfold dS
    rw [dif_pos (by omega)]
    rfl
  · rw [hhc]
    exact recur_shift _ _ _ _ _

end Cert.KernelIdeal.Front
-- ==== Proof.KValue.lean ====
/- The kernel's arrays at an index are the formulas of its arguments. -/
module

public import proofs.«01_k».proof.Proof.KSeq

@[expose] public section

set_option maxRecDepth 16384

noncomputable section

open Idealize.ShloMosaic Idealize.ShloMosaic.Tactic Idealize.ShloMosaic.TcCoe

namespace Cert.KernelIdeal.Front

open Cert.KernelIdeal Cert.KernelIdeal.Gen Cert.KernelIdeal.Value Cert.Front

variable (m : (ℓ : Loc nD τ sig) → Buf (Elt Ideal) ℓ) (c : Dev nD)

/-- What every point leaves, whichever of the three cases it is. -/
theorem point_all (t : Fin cfg0.N) (acc) :
    (stAt0 m c t.val t.isLt acc).1 = k0_pay3 (F := Ideal) (k0_pay10 (iblk m c 0 t) (iblk m c 3 t) (iblk m c 1 t) (iblk m c 2 t) (iblk m c 4 t)) (hAt m c t (tailIn m c t acc.2.2.2.2.2.2.1) (stateIn m c t acc.2.2.2.2.2.2.2))
    ∧ (stAt0 m c t.val t.isLt acc).2.1 = k0_pay12 (F := Ideal) (k0_pay11 (iblk m c 0 t) (iblk m c 3 t) (iblk m c 1 t) (iblk m c 2 t) (iblk m c 4 t))
    ∧ (stAt0 m c t.val t.isLt acc).2.2.1 = k0_pay13 (F := Ideal) (pAt m c t) (iblk m c 10 t)
    ∧ (stAt0 m c t.val t.isLt acc).2.2.2.1 = k0_pay14 (F := Ideal) (pAt m c t)
    ∧ (stAt0 m c t.val t.isLt acc).2.2.2.2.2.2.1 = k0_pay16 (F := Ideal) (xAt m c t)
    ∧ (stAt0 m c t.val t.isLt acc).2.2.2.2.2.2.2 = k0_pay2 (F := Ideal) (hAt m c t (tailIn m c t acc.2.2.2.2.2.2.1) (stateIn m c t acc.2.2.2.2.2.2.2)) := by
  by_cases h0 : t.val % 4 = 0
  · exact point_A m c t acc h0 (by omega)
  · by_cases h1 : t.val % 4 = 3
    · obtain ⟨p1, p2, p3, p4, -, -, p7, p8⟩ := point_C m c t acc h0 h1
      exact ⟨p1, p2, p3, p4, p7, p8⟩
    · exact point_B m c t acc h0 h1

/-- What stands after a point. -/
abbrev at0 (t : Fin cfg0.N) := outsAt0 m c t.val t.isLt

/-- It comes of what stood before, which after the first point is what stands after the point before. -/
theorem at0_step (t : Fin cfg0.N) : ∃ acc, at0 m c t = stAt0 m c t.val t.isLt acc
    ∧ ∀ s : Fin cfg0.N, s.val + 1 = t.val → acc = at0 m c s := by
  obtain ⟨n, hn⟩ := t
  cases n with
  | zero => exact ⟨_, outsAt0_zero m c hn, fun s hs => absurd hs (by show ¬ s.val + 1 = 0; omega)⟩
  | succ n =>
    refine ⟨_, outsAt0_succ m c n hn, fun s hs => ?_⟩
    obtain ⟨k, hk⟩ := s
    have e : k = n := by have h : k + 1 = n + 1 := hs; omega
    subst e
    rfl

/-- The tail kept after a point. -/
theorem tail_eq (t : Fin cfg0.N) (r : Fin 8) (n : Fin 512) :
    @Eq EReal ((at0 m c t).2.2.2.2.2.2.1 (ix2 r n)) (proj (inp m c) (bt t) (pos t ⟨504 + r.val, by omega⟩) ⟨n.val, by omega⟩) := by
  obtain ⟨acc, e, -⟩ := at0_step m c t
  obtain ⟨-, -, -, -, h, -⟩ := point_all m c t acc
  rw [e, h]
  exact (pay16_apply _ r n).trans (xAt_eq m c t _ n)

/-- A block begins with the right tail. -/
theorem tail_ok (t : Fin cfg0.N) (acc) (hacc : ∀ s : Fin cfg0.N, s.val + 1 = t.val → acc = at0 m c s) :
    TailOk m c t (tailIn m c t acc.2.2.2.2.2.2.1) := by
  intro r n
  unfold tailIn
  by_cases h0 : t.val % 4 = 0
  · rw [if_pos h0, if_pos h0]
    exact (pay6_apply _ r n).trans (blk_tail m c t r n)
  · rw [if_neg h0, if_neg h0, hacc ⟨t.val - 1, by have := t.isLt; omega⟩ (by show t.val - 1 + 1 = t.val; omega)]
    refine (tail_eq m c _ r n).trans ?_
    refine congrArg₂ (fun b p => proj (inp m c) b p ⟨n.val, by omega⟩) (Fin.ext ?_) (Fin.ext ?_)
    · show (t.val - 1) / 4 = t.val / 4
      omega
    · show 512 * ((t.val - 1) % 4) + (504 + r.val) = 512 * (t.val % 4) + r.val - 8
      omega

/-- The state kept after a point. -/
theorem state_eq : ∀ (k : ℕ) (t : Fin cfg0.N), t.val = k → ∀ n : Fin 512,
    @Eq EReal ((at0 m c t).2.2.2.2.2.2.2 (ix2 0 n)) (state (inp m c) (bt t) n (512 * (t.val % 4) + 512))
    ∧ ∃ acc, at0 m c t = stAt0 m c t.val t.isLt acc
      ∧ ∀ r : Fin 512, @Eq EReal (hAt m c t (tailIn m c t acc.2.2.2.2.2.2.1) (stateIn m c t acc.2.2.2.2.2.2.2) (ix2 r n))
        (state (inp m c) (bt t) n (512 * (t.val % 4) + (r.val + 1))) := by
  intro k
  induction k with
  | zero =>
    intro t ht n
    obtain ⟨acc, e, hacc⟩ := at0_step m c t
    have hh : ∀ r : Fin 512, @Eq EReal (hAt m c t (tailIn m c t acc.2.2.2.2.2.2.1) (stateIn m c t acc.2.2.2.2.2.2.2) (ix2 r n))
        (state (inp m c) (bt t) n (512 * (t.val % 4) + (r.val + 1))) := fun r => by
      refine hAt_eq m c t _ (tail_ok m c t acc hacc) _ (fun n => ?_) r n
      unfold stateIn
      rw [if_pos (by omega), show 512 * (t.val % 4) = 0 by omega]
      exact (pay7_apply _ n).trans (blk_h0 m c t n)
    refine ⟨?_, acc, e, hh⟩
    obtain ⟨-, -, -, -, -, h⟩ := point_all m c t acc
    rw [e, h]
    exact (pay2_apply _ n).trans (hh _)
  | succ k ih =>
    intro t ht n
    obtain ⟨acc, e, hacc⟩ := at0_step m c t
    have hh : ∀ r : Fin 512, @Eq EReal (hAt m c t (tailIn m c t acc.2.2.2.2.2.2.1) (stateIn m c t acc.2.2.2.2.2.2.2) (ix2 r n))
        (state (inp m c) (bt t) n (512 * (t.val % 4) + (r.val + 1))) := fun r => by
      refine hAt_eq m c t _ (tail_ok m c t acc hacc) _ (fun n => ?_) r n
      unfold stateIn
      by_cases h0 : t.val % 4 = 0
      · rw [if_pos h0, h0]
        exact (pay7_apply _ n).trans (blk_h0 m c t n)
      · have hs : k < cfg0.N := by have := t.isLt; omega
        rw [if_neg h0, hacc ⟨k, hs⟩ (by show k + 1 = t.val; omega)]
        refine ((ih ⟨k, hs⟩ rfl n).1).trans ?_
        refine congrArg₂ (fun b p => state (inp m c) b n p) (Fin.ext ?_) ?_
        · show k / 4 = t.val / 4
          omega
        · show 512 * (k % 4) + 512 = 512 * (t.val % 4)
          omega
    refine ⟨?_, acc, e, hh⟩
    obtain ⟨-, -, -, -, -, h⟩ := point_all m c t acc
    rw [e, h]
    exact (pay2_apply _ n).trans (hh _)

/-! ## What a point stores -/

/-- The recurrent branch that a point stores. -/
theorem at_outR (t : Fin cfg0.N) (r n : Fin 512) :
    @Eq EReal ((at0 m c t).1 (ix3 0 r n)) (outR (inp m c) (bt t) (pos t r) n) := by
  obtain ⟨-, acc, e, hh⟩ := state_eq m c t.val t rfl n
  rw [e, (point_all m c t acc).1]
  refine (pay3_apply _ _ r n).trans ?_
  refine congrArg₂ (fun a b : EReal => a * gelu b) (hh r) ?_
  exact (pay10_apply _ _ _ _ _ r n).trans (pAt_col m c t r _ _ fun k => host_w_low m c k _ (by show 512 + n.val < 1024; omega))

/-- The queries that a point stores. -/
theorem at_outQ (t : Fin cfg0.N) (r n : Fin 512) :
    @Eq EReal ((at0 m c t).2.1 (ix3 0 r n)) (outQ (inp m c) (bt t) (pos t r) n) := by
  obtain ⟨acc, e, -⟩ := at0_step m c t
  rw [e, (point_all m c t acc).2.1]
  refine (pay12_apply _ r n).trans ?_
  exact (pay11_apply _ _ _ _ _ r n).trans (pAt_col m c t r _ _ fun k => host_w_q m c k n)

/-- The keys that a point stores. -/
theorem at_outK (t : Fin cfg0.N) (r : Fin 512) (l : Fin 128) :
    @Eq EReal ((at0 m c t).2.2.1 (ix3 0 r l)) (outK (inp m c) (bt t) (pos t r) l) := by
  obtain ⟨acc, e, -⟩ := at0_step m c t
  have hp : ∀ l : Fin 128, @Eq EReal (pAt m c t (ix2 r (⟨1536 + l.val, by omega⟩ : Fin 1792))) (proj (inp m c) (bt t) (pos t r) ⟨1536 + l.val, by omega⟩) :=
    fun l => pAt_col m c t r _ _ fun k => host_w_high m c k _ (by show 1536 ≤ 1536 + l.val; omega)
  rw [e, (point_all m c t acc).2.2.1]
  refine (pay13_apply _ _ r l).trans ?_
  exact congr (congr (congrArg headNorm (hp l)) (funext fun i => hp ⟨64 * (l.val / 64) + i.val, by omega⟩)) (blk_kn m c t l)

/-- The values that a point stores. -/
theorem at_outV (t : Fin cfg0.N) (r : Fin 512) (l : Fin 128) :
    @Eq EReal ((at0 m c t).2.2.2.1 (ix3 0 r l)) (outV (inp m c) (bt t) (pos t r) l) := by
  obtain ⟨acc, e, -⟩ := at0_step m c t
  rw [e, (point_all m c t acc).2.2.2.1]
  exact (pay14_apply _ r l).trans (pAt_col m c t r _ _ fun k => host_w_high m c k _ (by show 1536 ≤ 1664 + l.val; omega))

/-- The last rows that a sequence's last point stores. -/
theorem at_outC (t : Fin cfg0.N) (h3 : t.val % 4 = 3) (r : Fin 8) (n : Fin 512) :
    @Eq EReal ((at0 m c t).2.2.2.2.1 (ix3 0 r n)) (outC (inp m c) (bt t) r n) := by
  obtain ⟨acc, e, -⟩ := at0_step m c t
  obtain ⟨-, -, -, -, h, -⟩ := point_C m c t acc (by omega) h3
  rw [e, h]
  refine (pay4_apply _ r n).trans ((xAt_eq m c t _ n).trans ?_)
  refine congrArg (fun p => proj (inp m c) (bt t) p ⟨n.val, by omega⟩) (Fin.ext ?_)
  show 512 * (t.val % 4) + (504 + r.val) = 2040 + r.val
  omega

/-- The final state that a sequence's last point stores. -/
theorem at_outH (t : Fin cfg0.N) (h3 : t.val % 4 = 3) (n : Fin 512) :
    @Eq EReal ((at0 m c t).2.2.2.2.2.1 (ix3 0 0 n)) (outH (inp m c) (bt t) n) := by
  obtain ⟨-, acc, e, hh⟩ := state_eq m c t.val t rfl n
  obtain ⟨-, -, -, -, -, h, -⟩ := point_C m c t acc (by omega) h3
  rw [e, h]
  refine (pay5_apply _ n).trans ((hh _).trans ?_)
  refine congrArg (state (inp m c) (bt t) n) ?_
  show 512 * (t.val % 4) + (511 + 1) = 2048
  omega

/-! ## The arrays -/

/-- The point that writes a position of a sequence. -/
abbrev ptOf (b : Fin 8) (s : Fin 2048) : Fin cfg0.N := ⟨4 * b.val + s.val / 512, lt_of_lt_of_eq (by omega) N_0.symm⟩

/-- It works on that sequence. -/
theorem bt_ptOf (b : Fin 8) (s : Fin 2048) : bt (ptOf b s) = b := Fin.ext (by show (4 * b.val + s.val / 512) / 4 = b.val; omega)
/-- It holds that position. -/
theorem pos_ptOf (b : Fin 8) (s : Fin 2048) : pos (ptOf b s) ⟨s.val % 512, by omega⟩ = s :=
  Fin.ext (by show 512 * ((4 * b.val + s.val / 512) % 4) + s.val % 512 = s.val; omega)

/-- The last point of a sequence. -/
abbrev ptLast (b : Fin 8) : Fin cfg0.N := ⟨4 * b.val + 3, lt_of_lt_of_eq (by omega) N_0.symm⟩
/-- It works on that sequence. -/
theorem bt_ptLast (b : Fin 8) : bt (ptLast b) = b := Fin.ext (by show (4 * b.val + 3) / 4 = b.val; omega)

/-- The fold up to a point is what stands after it. -/
theorem fold_eq (t : Fin cfg0.N) (j : ℕ) (h : 0 + j < cfg0.N) (hj : j = t.val) :
    Pipeline.accAt (fun n h => stAt0 m c n h junk0) (stAt0 m c) 0 j h = at0 m c t := by
  subst hj
  exact (outsAt0_sweep m c t.val t.isLt).symm

/-- The array of the recurrent branch. -/
theorem G13_eq (b : Fin 8) (s : Fin 2048) (n : Fin 512) : @Eq EReal (G13 m c (ix3 b s n)) (outR (inp m c) b s n) := by
  have hp : pt13Of (ix3 b s n) = (ptOf b s).val := by
    show 4 * (b.val / 1 - 0) + 1 * (s.val / 512 - 0) + 1 * (n.val / 512 - 0) = 4 * b.val + s.val / 512
    omega
  have hl : loc13Of (ix3 b s n) = ix3 (0 : Fin 1) (⟨s.val % 512, by omega⟩ : Fin 512) n := by
    funext a; apply Fin.ext
    match a with
    | ⟨0, _⟩ => show b.val % 1 = 0; omega
    | ⟨1, _⟩ => rfl
    | ⟨2, _⟩ => show n.val % 512 = n.val; omega
  refine (dif_pos (by rw [hp]; exact (ptOf b s).isLt)).trans ?_
  rw [fold_eq m c (ptOf b s) _ _ hp, hl]
  refine (at_outR m c _ _ n).trans ?_
  rw [bt_ptOf, pos_ptOf]

/-- The array of the queries. -/
theorem G14_eq (b : Fin 8) (s : Fin 2048) (n : Fin 512) : @Eq EReal (G14 m c (ix3 b s n)) (outQ (inp m c) b s n) := by
  have hp : pt14Of (ix3 b s n) = (ptOf b s).val := by
    show 4 * (b.val / 1 - 0) + 1 * (s.val / 512 - 0) + 1 * (n.val / 512 - 0) = 4 * b.val + s.val / 512
    omega
  have hl : loc14Of (ix3 b s n) = ix3 (0 : Fin 1) (⟨s.val % 512, by omega⟩ : Fin 512) n := by
    funext a; apply Fin.ext
    match a with
    | ⟨0, _⟩ => show b.val % 1 = 0; omega
    | ⟨1, _⟩ => rfl
    | ⟨2, _⟩ => show n.val % 512 = n.val; omega
  refine (dif_pos (by rw [hp]; exact (ptOf b s).isLt)).trans ?_
  rw [fold_eq m c (ptOf b s) _ _ hp, hl]
  refine (at_outQ m c _ _ n).trans ?_
  rw [bt_ptOf, pos_ptOf]

/-- The array of the keys. -/
theorem G15_eq (b : Fin 8) (s : Fin 2048) (l : Fin 128) : @Eq EReal (G15 m c (ix3 b s l)) (outK (inp m c) b s l) := by
  have hp : pt15Of (ix3 b s l) = (ptOf b s).val := by
    show 4 * (b.val / 1 - 0) + 1 * (s.val / 512 - 0) + 1 * (l.val / 128 - 0) = 4 * b.val + s.val / 512
    omega
  have hl : loc15Of (ix3 b s l) = ix3 (0 : Fin 1) (⟨s.val % 512, by omega⟩ : Fin 512) l := by
    funext a; apply Fin.ext
    match a with
    | ⟨0, _⟩ => show b.val % 1 = 0; omega
    | ⟨1, _⟩ => rfl
    | ⟨2, _⟩ => show l.val % 128 = l.val; omega
  refine (dif_pos (by rw [hp]; exact (ptOf b s).isLt)).trans ?_
  rw [fold_eq m c (ptOf b s) _ _ hp, hl]
  refine (at_outK m c _ _ l).trans ?_
  rw [bt_ptOf, pos_ptOf]

/-- The array of the values. -/
theorem G16_eq (b : Fin 8) (s : Fin 2048) (l : Fin 128) : @Eq EReal (G16 m c (ix3 b s l)) (outV (inp m c) b s l) := by
  have hp : pt16Of (ix3 b s l) = (ptOf b s).val := by
    show 4 * (b.val / 1 - 0) + 1 * (s.val / 512 - 0) + 1 * (l.val / 128 - 0) = 4 * b.val + s.val / 512
    omega
  have hl : loc16Of (ix3 b s l) = ix3 (0 : Fin 1) (⟨s.val % 512, by omega⟩ : Fin 512) l := by
    funext a; apply Fin.ext
    match a with
    | ⟨0, _⟩ => show b.val % 1 = 0; omega
    | ⟨1, _⟩ => rfl
    | ⟨2, _⟩ => show l.val % 128 = l.val; omega
  refine (dif_pos (by rw [hp]; exact (ptOf b s).isLt)).trans ?_
  rw [fold_eq m c (ptOf b s) _ _ hp, hl]
  refine (at_outV m c _ _ l).trans ?_
  rw [bt_ptOf, pos_ptOf]

/-- The array of the last rows. -/
theorem G17_eq (b : Fin 8) (r : Fin 8) (n : Fin 512) : @Eq EReal (G17 m c (ix3 b r n)) (outC (inp m c) b r n) := by
  have hp : pt17Of (ix3 b r n) = (ptLast b).val := by
    show 4 * (1 * (b.val / 1 - 0) + 1 * (r.val / 8 - 0) + 1 * (n.val / 512 - 0)) + 3 = 4 * b.val + 3
    omega
  have hl : loc17Of (ix3 b r n) = ix3 (0 : Fin 1) r n := by
    funext a; apply Fin.ext
    match a with
    | ⟨0, _⟩ => show b.val % 1 = 0; omega
    | ⟨1, _⟩ => show r.val % 8 = r.val; omega
    | ⟨2, _⟩ => show n.val % 512 = n.val; omega
  refine (dif_pos (by rw [hp]; exact (ptLast b).isLt)).trans ?_
  rw [fold_eq m c (ptLast b) _ _ hp, hl]
  refine (at_outC m c _ (by show (4 * b.val + 3) % 4 = 3; omega) r n).trans ?_
  rw [bt_ptLast]

/-- The array of the final states. -/
theorem G18_eq (b : Fin 8) (n : Fin 512) : @Eq EReal (G18 m c (ix3 b 0 n)) (outH (inp m c) b n) := by
  have hp : pt18Of (ix3 b (0 : Fin 1) n) = (ptLast b).val := by
    show 4 * (1 * (b.val / 1 - 0) + 1 * (0 / 1 - 0) + 1 * (n.val / 512 - 0)) + 3 = 4 * b.val + 3
    omega
  have hl : loc18Of (ix3 b (0 : Fin 1) n) = ix3 (0 : Fin 1) (0 : Fin 1) n := by
    funext a; apply Fin.ext
    match a with
    | ⟨0, _⟩ => show b.val % 1 = 0; omega
    | ⟨1, _⟩ => rfl
    | ⟨2, _⟩ => show n.val % 512 = n.val; omega
  refine (dif_pos (by rw [hp]; exact (ptLast b).isLt)).trans ?_
  rw [fold_eq m c (ptLast b) _ _ hp, hl]
  refine (at_outH m c _ (by show (4 * b.val + 3) % 4 = 3; omega) n).trans ?_
  rw [bt_ptLast]

end Cert.KernelIdeal.Front
-- ==== Proof.RefRead.lean ====
/- The reference's lines before its loop, at an index. -/
module

public import proofs.«01_k».proof.Proof.Seq
public import proofs.«01_k».proof.Proof.Gen.ReferenceIdeal.Run
public import Idealize.ShloMosaic.Lib.StableHlo.RunRead
public import Idealize.ShloMosaic.Lib.StableHlo.ReadAt
public import Idealize.ShloMosaic.Lib.Pointwise

@[expose] public section

set_option maxRecDepth 16384

noncomputable section

open Idealize.ShloMosaic Idealize.ShloMosaic.Tactic Idealize.ShloMosaic.TcCoe Idealize.ShloMosaic.StableHlo

namespace Cert.ReferenceIdeal.Front

open Cert.ReferenceIdeal Cert.ReferenceIdeal.Gen Cert.ReferenceIdeal.Value Cert.Front

variable (W : Valuation τ sig (Elt Ideal))

/-- The reference's arguments as the front's inputs. -/
def inp : Inp where
  x b t k := W (Proc.devRef .tc main_arg0) (ix3 b t k)
  sh b k := W (Proc.devRef .tc main_arg1) (ix3 b 0 k)
  sc b k := W (Proc.devRef .tc main_arg2) (ix3 b 0 k)
  g k := W (Proc.devRef .tc main_arg3) (ix2 0 k)
  w k e := W (Proc.devRef .tc main_arg4) (ix3 0 k e)
  cw j n := W (Proc.devRef .tc main_arg5) (ix3 0 j n)
  cb n := W (Proc.devRef .tc main_arg6) (ix2 0 n)
  ga a i j := W (Proc.devRef .tc main_arg7) (ix4 0 a i j)
  gab n := W (Proc.devRef .tc main_arg8) (ix2 0 n)
  gx a i j := W (Proc.devRef .tc main_arg9) (ix4 0 a i j)
  gxb n := W (Proc.devRef .tc main_arg10) (ix2 0 n)
  lam n := W (Proc.devRef .tc main_arg11) (ix2 0 n)
  kn j := W (Proc.devRef .tc main_arg12) (ix2 0 j)

/-- The lines up to the projection's pieces. -/
abbrev lineA : List (HloOp τ sig (Elt Ideal)) := hostOps0.take 31
/-- The convolution's lines. -/
abbrev lineB : List (HloOp τ sig (Elt Ideal)) := (hostOps0.drop 31).take 35
/-- The gates' lines. -/
abbrev lineC : List (HloOp τ sig (Elt Ideal)) := (hostOps0.drop 31).drop 35

/-- The lines before the loop, in three parts. -/
theorem cut_lines : after hostOps0 W = after lineC (after lineB (after lineA W)) := by
  rw [← after_append, ← after_append, List.take_append_drop, List.take_append_drop]

/-- These lines leave the arguments alone. -/
theorem inp_A : inp (after lineA W) = inp W := by
  unfold inp
  after_reads_simp
/-- These lines leave the arguments alone. -/
theorem inp_B : inp (after lineB W) = inp W := by
  unfold inp
  after_reads_simp
/-- These lines leave the arguments alone. -/
theorem inp_C : inp (after lineC W) = inp W := by
  unfold inp
  after_reads_simp
/-- These lines leave the arguments alone. -/
theorem inp_D : inp (after hostOps0_1 W) = inp W := by
  unfold inp
  after_reads_simp
/-- These lines leave the arguments alone. -/
theorem inp_E : inp (after hostOps0_2 W) = inp W := by
  unfold inp
  after_reads_simp

/-- The projection's recurrent piece. -/
theorem A_22 (b : Fin 8) (t : Fin 2048) (n : Fin 512) :
    @Eq EReal (after lineA W (Proc.devRef .tc main_v22) (ix3 b t n)) (proj (inp W) b t ⟨n.val, by omega⟩) := by
  after_reads_simp
  pointwise
  rfl
/-- The projection's gate piece. -/
theorem A_23 (b : Fin 8) (t : Fin 2048) (n : Fin 512) :
    @Eq EReal (after lineA W (Proc.devRef .tc main_v23) (ix3 b t n)) (proj (inp W) b t ⟨512 + n.val, by omega⟩) := by
  after_reads_simp
  pointwise
  rfl
/-- The projection's query piece. -/
theorem A_24 (b : Fin 8) (t : Fin 2048) (n : Fin 512) :
    @Eq EReal (after lineA W (Proc.devRef .tc main_v24) (ix3 b t n)) (proj (inp W) b t ⟨1024 + n.val, by omega⟩) := by
  after_reads_simp
  pointwise
  rfl
/-- The projection's key piece. -/
theorem A_25 (b : Fin 8) (t : Fin 2048) (n : Fin 128) :
    @Eq EReal (after lineA W (Proc.devRef .tc main_v25) (ix3 b t n)) (proj (inp W) b t ⟨1536 + n.val, by omega⟩) := by
  after_reads_simp
  pointwise
  rfl
/-- The projection's value piece. -/
theorem A_26 (b : Fin 8) (t : Fin 2048) (n : Fin 128) :
    @Eq EReal (after lineA W (Proc.devRef .tc main_v26) (ix3 b t n)) (proj (inp W) b t ⟨1664 + n.val, by omega⟩) := by
  after_reads_simp
  pointwise
  rfl
end Cert.ReferenceIdeal.Front
-- ==== Proof.RefLine.lean ====
/- The reference's lines before its loop, at an index: the convolution, the gates, and what enters the loop. -/
module

public import proofs.«01_k».proof.Proof.RefRead
public import proofs.«01_k».proof.Proof.Gen.ReferenceIdeal.Run
public import Idealize.ShloMosaic.Lib.StableHlo.RunRead
public import Idealize.ShloMosaic.Lib.StableHlo.ReadAt
public import Idealize.ShloMosaic.Lib.Pointwise

@[expose] public section

set_option maxRecDepth 16384

noncomputable section

open Idealize.ShloMosaic Idealize.ShloMosaic.Tactic Idealize.ShloMosaic.TcCoe Idealize.ShloMosaic.StableHlo

namespace Cert.ReferenceIdeal.Front

open Cert.ReferenceIdeal Cert.ReferenceIdeal.Gen Cert.ReferenceIdeal.Value Cert.Front

variable (W : Valuation τ sig (Elt Ideal))

/-- The convolution, of the projection's first columns. -/
theorem B_60 (h : ∀ (b : Fin 8) (t : Fin 2048) (n : Fin 512),
      @Eq EReal (W (Proc.devRef .tc main_v22) (ix3 b t n)) (proj (inp W) b t ⟨n.val, by omega⟩))
    (b : Fin 8) (t : Fin 2048) (n : Fin 512) :
    @Eq EReal (after lineB W (Proc.devRef .tc main_v60) (ix3 b t n)) (conv (inp W) b t n) := by
  after_reads_simp
  pointwise
  after_reads_simp
  pointwise
  unfold conv conv4 back
  congr 1
  · congr 1
    · congr 1
      · congr 1
        congr 1
        by_cases h3 : t.val < 3
        · exact (dif_pos h3).trans (if_neg (by omega)).symm
        · exact (dif_neg h3).trans ((h b _ n).trans (if_pos (by omega)).symm)
      · congr 1
        by_cases h3 : 1 + t.val < 3
        · exact (dif_pos h3).trans (if_neg (by omega)).symm
        · refine (dif_neg h3).trans (((h b _ n).trans (congrArg (fun j => proj (inp W) b j _) (Fin.ext ?_))).trans (if_pos (by omega)).symm)
          show 1 + t.val - 3 = t.val - 2
          omega
    · congr 1
      by_cases h3 : 2 + t.val < 3
      · exact (dif_pos h3).trans (if_neg (by omega)).symm
      · refine (dif_neg h3).trans (((h b _ n).trans (congrArg (fun j => proj (inp W) b j _) (Fin.ext ?_))).trans (if_pos (by omega)).symm)
        show 2 + t.val - 3 = t.val - 1
        omega
  · congr 1
    rw [if_pos (by omega)]
    exact h b t n

/-- The first gate's logistic, times −8. -/
theorem C_93 (h : ∀ (b : Fin 8) (t : Fin 2048) (n : Fin 512),
      @Eq EReal (W (Proc.devRef .tc main_v60) (ix3 b t n)) (conv (inp W) b t n))
    (b : Fin 8) (t : Fin 2048) (n : Fin 512) :
    @Eq EReal (after lineC W (Proc.devRef .tc main_v93) (ix3 b t n))
      (((-8 : ℝ) : EReal) * Ideal.logistic (gatePre (inp W) (inp W).ga (inp W).gab b t n)) := by
  have key : @Eq EReal (∑ x : Fin 64, @HMul.hMul EReal EReal EReal _
        (W (Proc.devRef .tc main_arg7) (ix4 0 (⟨n.val / 64, by omega⟩ : Fin 8) x (⟨n.val % 64, by omega⟩ : Fin 64)))
        (W (Proc.devRef .tc main_v60) (ix3 b t (⟨n.val / 64 * 64 + x.val, by omega⟩ : Fin 512)))
      + W (Proc.devRef .tc main_arg8) (ix2 0 n)) (gatePre (inp W) (inp W).ga (inp W).gab b t n) := by
    unfold gatePre
    refine congrArg (· + _) (Finset.sum_congr rfl fun x _ => ?_)
    rw [mul_comm]
    refine congrArg₂ (· * ·) ((h b t _).trans (congrArg (conv (inp W) b t) (Fin.ext ?_))) rfl
    show n.val / 64 * 64 + x.val = 64 * (n.val / 64) + x.val
    omega
  rw [← key, ← word_neg8]
  after_reads_simp
  pointwise
  rfl

/-- The second gate's logistic. -/
theorem C_91 (h : ∀ (b : Fin 8) (t : Fin 2048) (n : Fin 512),
      @Eq EReal (W (Proc.devRef .tc main_v60) (ix3 b t n)) (conv (inp W) b t n))
    (b : Fin 8) (t : Fin 2048) (n : Fin 512) :
    @Eq EReal (after lineC W (Proc.devRef .tc main_v91) (ix3 b t n))
      (Ideal.logistic (gatePre (inp W) (inp W).gx (inp W).gxb b t n)) := by
  have key : @Eq EReal (∑ x : Fin 64, @HMul.hMul EReal EReal EReal _
        (W (Proc.devRef .tc main_arg9) (ix4 0 (⟨n.val / 64, by omega⟩ : Fin 8) x (⟨n.val % 64, by omega⟩ : Fin 64)))
        (W (Proc.devRef .tc main_v60) (ix3 b t (⟨n.val / 64 * 64 + x.val, by omega⟩ : Fin 512)))
      + W (Proc.devRef .tc main_arg10) (ix2 0 n)) (gatePre (inp W) (inp W).gx (inp W).gxb b t n) := by
    unfold gatePre
    refine congrArg (· + _) (Finset.sum_congr rfl fun x _ => ?_)
    rw [mul_comm]
    refine congrArg₂ (· * ·) ((h b t _).trans (congrArg (conv (inp W) b t) (Fin.ext ?_))) rfl
    show n.val / 64 * 64 + x.val = 64 * (n.val / 64) + x.val
    omega
  rw [← key]
  after_reads_simp
  pointwise
  rfl

/-- The decay's parameter, negated. -/
theorem C_94 (n : Fin 512) : @Eq EReal (after lineC W (Proc.devRef .tc main_v94) (ix1 n)) (-((inp W).lam n)) := by
  after_reads_simp
  pointwise
  rfl

/-- The state before the sequence. -/
theorem C_61 (b : Fin 8) (n : Fin 512) : @Eq EReal (after lineC W (Proc.devRef .tc main_v61) (ix2 b n)) 0 := by
  after_reads_simp
  pointwise

/-- The soft plus. -/
theorem D_95 (n : Fin 512) :
    @Eq EReal (after hostOps0_1 W (Proc.devRef .tc main_v95) (ix1 n)) (softplus (W (Proc.devRef .tc main_v94) (ix1 n))) := by
  after_reads_at
  rw [if_neg (fun h => h rfl)]
  rfl

/-- The multipliers that enter the loop. -/
theorem E_0 (b : Fin 8) (t : Fin 2048) (n : Fin 512) :
    @Eq EReal (after hostOps0_2 W (Proc.devRef .tc main_v110_0) (ix3 t b n))
      (Ideal.exp (@HMul.hMul EReal EReal EReal _ (W (Proc.devRef .tc main_v93) (ix3 b t n)) (W (Proc.devRef .tc main_v95) (ix1 n)))) := by
  after_reads_simp
  simp only [id_eq]
  pointwise

/-- The addends that enter the loop. -/
theorem E_1 (b : Fin 8) (t : Fin 2048) (n : Fin 512) :
    @Eq EReal (after hostOps0_2 W (Proc.devRef .tc main_v110_1) (ix3 t b n))
      (Ideal.sqrt (-(Ideal.expm1 (((2 : ℝ) : EReal) *
          @HMul.hMul EReal EReal EReal _ (W (Proc.devRef .tc main_v93) (ix3 b t n)) (W (Proc.devRef .tc main_v95) (ix1 n)))))
        * @HMul.hMul EReal EReal EReal _ (W (Proc.devRef .tc main_v91) (ix3 b t n)) (W (Proc.devRef .tc main_v60) (ix3 b t n))) := by
  rw [← word_two]
  after_reads_simp
  simp only [id_eq]
  pointwise
  rfl

/-- The state that enters the loop. -/
theorem E_3 (b : Fin 8) (n : Fin 512) :
    @Eq EReal (after hostOps0_2 W (Proc.devRef .tc main_v110_3) (ix2 b n)) (W (Proc.devRef .tc main_v61) (ix2 b n)) := by
  after_reads_simp
  rfl

end Cert.ReferenceIdeal.Front
-- ==== Proof.RefLoop.lean ====
/- The reference's loop, at an index. -/
module

public import proofs.«01_k».proof.Proof.RefLine
public import Idealize.ShloMosaic.Lib.DynamicIndex
public import Idealize.ShloMosaic.Lib.WordCmp
public import proofs.«01_k».proof.Proof.Gen.ReferenceIdeal.Run
public import Idealize.ShloMosaic.Lib.StableHlo.RunRead
public import Idealize.ShloMosaic.Lib.StableHlo.ReadAt
public import Idealize.ShloMosaic.Lib.Pointwise

@[expose] public section

set_option maxRecDepth 16384

noncomputable section

open Idealize.ShloMosaic Idealize.ShloMosaic.Tactic Idealize.ShloMosaic.TcCoe Idealize.ShloMosaic.StableHlo

namespace Cert.ReferenceIdeal.Front

open Cert.ReferenceIdeal Cert.ReferenceIdeal.Gen Cert.ReferenceIdeal.Value Cert.Front

variable (W : Valuation τ sig (Elt Ideal))

/-- The counter's word, read signed, is the counter. -/
theorem iv_toInt (k : ℕ) (hk : k < 2048) : (Scf.iv (0#32) 1#32 k).toInt = (k : Int) := by
  unfold Scf.iv
  rw [BitVec.zero_add, BitVec.mul_one, BitVec.toInt_eq_toNat_cond, BitVec.toNat_ofNat]
  omega

/-- Step `k`'s rows lie in the sequence. -/
theorem row_slices (k : ℕ) (hk : k < 2048) : S2048x8x512.Slices ![k, 0, 0] S1x8x512 := by
  refine ⟨rfl, fun a => ?_⟩
  match a with
  | ⟨0, _⟩ => show k + 1 ≤ 2048; omega
  | ⟨1, _⟩ => show 0 + 8 ≤ 8; omega
  | ⟨2, _⟩ => show 0 + 512 ≤ 512; omega

/-- The starts of step `k`. -/
theorem starts_eq (k : ℕ) (hk : k < 2048) (hc : W (Proc.devRef .tc main_v110_2) = fun _ => Scf.iv (0#32) 1#32 k) (a : Fin 3) :
    (((![W (Proc.devRef .tc main_v110_2), constantI S_ 32 0#32, constantI S_ 32 0#32] : Fin 3 → (⟨S_, .i32⟩ : BufTy).Contents (Elt Ideal))) a (Shape.Idx.first h_S_)).toInt
      = ((![k, 0, 0] : Fin 3 → ℕ) a : Int) := by
  match a with
  | ⟨0, _⟩ =>
    show ((W (Proc.devRef .tc main_v110_2) : (⟨S_, .i32⟩ : BufTy).Contents (Elt Ideal)) (Shape.Idx.first h_S_)).toInt = (k : Int)
    rw [hc]
    exact iv_toInt k hk
  | ⟨1, _⟩ => rfl
  | ⟨2, _⟩ => rfl

/-- One step's state: the multiplier's row times the state before, plus the addend's row. -/
theorem step_state (k : ℕ) (hk : k < 2048) (hc : W (Proc.devRef .tc main_v110_2) = fun _ => Scf.iv (0#32) 1#32 k)
    (b : Fin 8) (n : Fin 512) :
    @Eq EReal (res_main_while0b_v150 W (ix2 b n))
      (@HMul.hMul EReal EReal EReal _ (W (Proc.devRef .tc main_v110_0) (ix3 (⟨k, hk⟩ : Fin 2048) b n)) (W (Proc.devRef .tc main_v110_3) (ix2 b n))
        + W (Proc.devRef .tc main_v110_1) (ix3 (⟨k, hk⟩ : Fin 2048) b n)) := by
  unfold res_main_while0b_v150
  rw [Host.dynamicSlice_eq_extractStridedSlice S1x8x512 _ _ ![k, 0, 0] _ (row_slices k hk) (starts_eq W k hk hc),
    Host.dynamicSlice_eq_extractStridedSlice S1x8x512 _ _ ![k, 0, 0] _ (row_slices k hk) (starts_eq W k hk hc)]
  pointwise

/-- One step's row of the collected states, others as before. -/
theorem step_rows (k : ℕ) (hk : k < 2048) (hc : W (Proc.devRef .tc main_v110_2) = fun _ => Scf.iv (0#32) 1#32 k)
    (t : Fin 2048) (b : Fin 8) (n : Fin 512) :
    @Eq EReal (step_main_v110_4 W (ix3 t b n))
      (if t.val = k then @id EReal (res_main_while0b_v150 W (ix2 b n)) else @id EReal (W (Proc.devRef .tc main_v110_4) (ix3 t b n))) := by
  unfold step_main_v110_4
  rw [id_eq, WordCmp.dynamicUpdateSlice_eq_update _ _ _ _ ![k, 0, 0] (row_slices k hk) (starts_eq W k hk hc)]
  pointwise
  by_cases ht : t.val = k
  · rw [if_pos ht]
    refine dif_pos (fun a => ?_)
    match a with
    | ⟨0, _⟩ => show k ≤ t.val ∧ t.val < k + 1; omega
    | ⟨1, _⟩ => show 0 ≤ b.val ∧ b.val < 0 + 8; omega
    | ⟨2, _⟩ => show 0 ≤ n.val ∧ n.val < 0 + 512; omega
  · rw [if_neg ht]
    refine dif_neg (fun h => ht ?_)
    have h0 : k ≤ t.val ∧ t.val < k + 1 := h (0 : Fin 3)
    omega

variable (m : (ℓ : Loc nD τ sig) → Buf (Elt Ideal) ℓ) (c : Dev nD) (I : Inp)

/-- The counter at step `k`. -/
theorem step_ctr (k : ℕ) :
    (STEP^[k] (entryContents preI m c)) (Proc.devRef .tc main_v110_2) = fun _ => Scf.iv (0#32) 1#32 k :=
  (atK_agree m c k main_v110_2 (by decide)).symm.trans (atK_ctr m c k)

/-- What the loop holds after `k` steps: the rows as they entered, the state after `k` positions, and the states of the
    positions before. -/
theorem loop_inv
    (h0 : ∀ (t : Fin 2048) (b : Fin 8) (n : Fin 512), @Eq EReal (entryContents preI m c (Proc.devRef .tc main_v110_0) (ix3 t b n)) (aAt I b n t))
    (h1 : ∀ (t : Fin 2048) (b : Fin 8) (n : Fin 512), @Eq EReal (entryContents preI m c (Proc.devRef .tc main_v110_1) (ix3 t b n)) (dAt I b n t))
    (h3 : ∀ (b : Fin 8) (n : Fin 512), @Eq EReal (entryContents preI m c (Proc.devRef .tc main_v110_3) (ix2 b n)) 0)
    (k : ℕ) (hk : k ≤ 2048) :
    (STEP^[k] (entryContents preI m c)) (Proc.devRef .tc main_v110_0) = entryContents preI m c (Proc.devRef .tc main_v110_0)
    ∧ (STEP^[k] (entryContents preI m c)) (Proc.devRef .tc main_v110_1) = entryContents preI m c (Proc.devRef .tc main_v110_1)
    ∧ (∀ (b : Fin 8) (n : Fin 512), @Eq EReal ((STEP^[k] (entryContents preI m c)) (Proc.devRef .tc main_v110_3) (ix2 b n)) (state I b n k))
    ∧ (∀ (t : Fin 2048) (b : Fin 8) (n : Fin 512), t.val < k →
        @Eq EReal ((STEP^[k] (entryContents preI m c)) (Proc.devRef .tc main_v110_4) (ix3 t b n)) (state I b n (t.val + 1))) := by
  induction k with
  | zero => exact ⟨rfl, rfl, fun b n => h3 b n, fun t _ _ h => absurd h (Nat.not_lt_zero _)⟩
  | succ k ih =>
    obtain ⟨e0, e1, e3, e4⟩ := ih (by omega)
    have hc := step_ctr m c k
    rw [Function.iterate_succ_apply']
    generalize STEP^[k] (entryContents preI m c) = X at e0 e1 e3 e4 hc
    have hs : ∀ (b : Fin 8) (n : Fin 512), @Eq EReal (res_main_while0b_v150 X (ix2 b n)) (state I b n (k + 1)) := by
      intro b n
      rw [step_state X k (by omega) hc b n, e0, e1, e3 b n, h0, h1]
      show _ = aS I b n k * state I b n k + dS I b n k
      rw [aS, dS, dif_pos (show k < 2048 by omega), dif_pos (show k < 2048 by omega)]
    refine ⟨(STEP_main_v110_0 X).trans e0, (STEP_main_v110_1 X).trans e1, fun b n => ?_, fun t b n ht => ?_⟩
    · rw [STEP_main_v110_3]
      exact hs b n
    · rw [STEP_main_v110_4, step_rows X k (by omega) hc t b n]
      by_cases htk : t.val = k
      · rw [if_pos htk, htk]
        exact hs b n
      · rw [if_neg htk]
        exact e4 t b n (by omega)

end Cert.ReferenceIdeal.Front
-- ==== Proof.RefValue.lean ====
/- The reference's results, at an index. -/
module

public import proofs.«01_k».proof.Proof.RefLoop
public import proofs.«01_k».proof.Proof.Gen.ReferenceIdeal.Run
public import Idealize.ShloMosaic.Lib.StableHlo.RunRead
public import Idealize.ShloMosaic.Lib.StableHlo.ReadAt
public import Idealize.ShloMosaic.Lib.Pointwise

@[expose] public section

set_option maxRecDepth 16384

noncomputable section

open Idealize.ShloMosaic Idealize.ShloMosaic.Tactic Idealize.ShloMosaic.TcCoe Idealize.ShloMosaic.StableHlo

namespace Cert.ReferenceIdeal.Front

open Cert.ReferenceIdeal Cert.ReferenceIdeal.Gen Cert.ReferenceIdeal.Value Cert.Front

variable (W : Valuation τ sig (Elt Ideal))

/-! ## What the loop leaves alone -/

/-- The convolution's lines leave the pieces alone. -/
theorem pass_B :
    after lineB W (Proc.devRef .tc main_v22) = W (Proc.devRef .tc main_v22) ∧ after lineB W (Proc.devRef .tc main_v23) = W (Proc.devRef .tc main_v23)
    ∧ after lineB W (Proc.devRef .tc main_v24) = W (Proc.devRef .tc main_v24) ∧ after lineB W (Proc.devRef .tc main_v25) = W (Proc.devRef .tc main_v25)
    ∧ after lineB W (Proc.devRef .tc main_v26) = W (Proc.devRef .tc main_v26) := by
  after_reads_simp
  simp only [and_self]
/-- The gates' lines leave the pieces and the convolution alone. -/
theorem pass_C :
    after lineC W (Proc.devRef .tc main_v22) = W (Proc.devRef .tc main_v22) ∧ after lineC W (Proc.devRef .tc main_v23) = W (Proc.devRef .tc main_v23)
    ∧ after lineC W (Proc.devRef .tc main_v24) = W (Proc.devRef .tc main_v24) ∧ after lineC W (Proc.devRef .tc main_v25) = W (Proc.devRef .tc main_v25)
    ∧ after lineC W (Proc.devRef .tc main_v26) = W (Proc.devRef .tc main_v26) ∧ after lineC W (Proc.devRef .tc main_v60) = W (Proc.devRef .tc main_v60) := by
  after_reads_simp
  simp only [and_self]
/-- The lines after the gates leave these alone. -/
theorem pass_D :
    after hostOps0_1 W (Proc.devRef .tc main_v22) = W (Proc.devRef .tc main_v22) ∧ after hostOps0_1 W (Proc.devRef .tc main_v23) = W (Proc.devRef .tc main_v23)
    ∧ after hostOps0_1 W (Proc.devRef .tc main_v24) = W (Proc.devRef .tc main_v24) ∧ after hostOps0_1 W (Proc.devRef .tc main_v25) = W (Proc.devRef .tc main_v25)
    ∧ after hostOps0_1 W (Proc.devRef .tc main_v26) = W (Proc.devRef .tc main_v26) ∧ after hostOps0_1 W (Proc.devRef .tc main_v60) = W (Proc.devRef .tc main_v60)
    ∧ after hostOps0_1 W (Proc.devRef .tc main_v91) = W (Proc.devRef .tc main_v91) ∧ after hostOps0_1 W (Proc.devRef .tc main_v93) = W (Proc.devRef .tc main_v93)
    ∧ after hostOps0_1 W (Proc.devRef .tc main_v61) = W (Proc.devRef .tc main_v61) := by
  after_reads_simp
  simp only [and_self]
/-- The lines right before the loop leave the pieces alone. -/
theorem pass_E :
    after hostOps0_2 W (Proc.devRef .tc main_v22) = W (Proc.devRef .tc main_v22) ∧ after hostOps0_2 W (Proc.devRef .tc main_v23) = W (Proc.devRef .tc main_v23)
    ∧ after hostOps0_2 W (Proc.devRef .tc main_v24) = W (Proc.devRef .tc main_v24) ∧ after hostOps0_2 W (Proc.devRef .tc main_v25) = W (Proc.devRef .tc main_v25)
    ∧ after hostOps0_2 W (Proc.devRef .tc main_v26) = W (Proc.devRef .tc main_v26) := by
  after_reads_simp
  simp only [and_self]
/-- A trip of the loop leaves the pieces alone. -/
theorem pass_trip :
    afterL bodyI (after condOps W) (Proc.devRef .tc main_v22) = W (Proc.devRef .tc main_v22) ∧ afterL bodyI (after condOps W) (Proc.devRef .tc main_v23) = W (Proc.devRef .tc main_v23)
    ∧ afterL bodyI (after condOps W) (Proc.devRef .tc main_v24) = W (Proc.devRef .tc main_v24) ∧ afterL bodyI (after condOps W) (Proc.devRef .tc main_v25) = W (Proc.devRef .tc main_v25)
    ∧ afterL bodyI (after condOps W) (Proc.devRef .tc main_v26) = W (Proc.devRef .tc main_v26) ∧ afterL bodyI (after condOps W) (Proc.devRef .tc main_arg12) = W (Proc.devRef .tc main_arg12) := by
  simp only [afterL_cons, afterL_nil]
  after_reads_simp
  simp only [and_self]
/-- The loop's test leaves these alone. -/
theorem pass_cond :
    after condOps W (Proc.devRef .tc main_v22) = W (Proc.devRef .tc main_v22) ∧ after condOps W (Proc.devRef .tc main_v23) = W (Proc.devRef .tc main_v23)
    ∧ after condOps W (Proc.devRef .tc main_v24) = W (Proc.devRef .tc main_v24) ∧ after condOps W (Proc.devRef .tc main_v25) = W (Proc.devRef .tc main_v25)
    ∧ after condOps W (Proc.devRef .tc main_v26) = W (Proc.devRef .tc main_v26) ∧ after condOps W (Proc.devRef .tc main_arg12) = W (Proc.devRef .tc main_arg12)
    ∧ after condOps W (Proc.devRef .tc main_v110_3) = W (Proc.devRef .tc main_v110_3) ∧ after condOps W (Proc.devRef .tc main_v110_4) = W (Proc.devRef .tc main_v110_4) := by
  after_reads_simp
  simp only [and_self]

/-! ## The last lines -/

/-- The recurrent branch, from the states and the gate piece. -/
theorem F_125 (b : Fin 8) (t : Fin 2048) (n : Fin 512) :
    @Eq EReal (after hostOps0_3 W (Proc.devRef .tc main_v125) (ix3 b t n))
      (@HMul.hMul EReal EReal EReal _ (W (Proc.devRef .tc main_v110_4) (ix3 t b n)) (gelu (W (Proc.devRef .tc main_v23) (ix3 b t n)))) := by
  unfold gelu
  rw [← word_half]
  after_reads_simp
  pointwise
/-- The keys, normalised by head. -/
theorem F_141 (b : Fin 8) (t : Fin 2048) (l : Fin 128) :
    @Eq EReal (after hostOps0_3 W (Proc.devRef .tc main_v141) (ix3 b t l))
      (headNorm (W (Proc.devRef .tc main_v25) (ix3 b t l)) (fun i => W (Proc.devRef .tc main_v25) (ix3 b t (⟨64 * (l.val / 64) + i.val, by omega⟩ : Fin 128)))
        (W (Proc.devRef .tc main_arg12) (ix2 0 (⟨l.val % 64, by omega⟩ : Fin 64)))) := by
  have e : ∀ i : Fin 64, (⟨64 * (l.val / 64) + i.val, by omega⟩ : Fin 128) = ⟨l.val / 64 * 64 + i.val, by omega⟩ := fun i => Fin.ext (by
    show 64 * (l.val / 64) + i.val = l.val / 64 * 64 + i.val
    omega)
  have e' : l = ⟨l.val / 64 * 64 + l.val % 64, by omega⟩ := Fin.ext (by
    show l.val = l.val / 64 * 64 + l.val % 64
    omega)
  unfold headNorm
  rw [← word_64]
  simp only [e]
  conv_rhs => rw [show @Eq EReal (W (Proc.devRef .tc main_v25) (ix3 b t l)) (W (Proc.devRef .tc main_v25) (ix3 b t ⟨l.val / 64 * 64 + l.val % 64, by omega⟩)) from congrArg (fun j => W (Proc.devRef .tc main_v25) (ix3 b t j)) e']
  after_reads_simp
  pointwise
/-- The queries, with the heads in pairs. -/
theorem F_144 (b : Fin 8) (t : Fin 2048) (n : Fin 512) :
    @Eq EReal (after hostOps0_3 W (Proc.devRef .tc main_v144) (ix3 b t n))
      (W (Proc.devRef .tc main_v24) (ix3 b t (⟨n.val / 64 % 2 * 256 + n.val / 128 * 64 + n.val % 64, by omega⟩ : Fin 512))) := by
  after_reads_simp
  pointwise
/-- The values stay. -/
theorem F_26 : after hostOps0_3 W (Proc.devRef .tc main_v26) = W (Proc.devRef .tc main_v26) := by
  after_reads_simp
/-- The recurrent piece's last rows. -/
theorem F_145 (b : Fin 8) (t : Fin 8) (n : Fin 512) :
    @Eq EReal (after hostOps0_3 W (Proc.devRef .tc main_v145) (ix3 b t n))
      (W (Proc.devRef .tc main_v22) (ix3 b (⟨2040 + t.val, by omega⟩ : Fin 2048) n)) := by
  after_reads_simp
  pointwise
/-- The final state. -/
theorem F_146 (b : Fin 8) (n : Fin 512) :
    @Eq EReal (after hostOps0_3 W (Proc.devRef .tc main_v146) (ix3 b 0 n)) (W (Proc.devRef .tc main_v110_3) (ix2 b n)) := by
  after_reads_simp
  pointwise
end Cert.ReferenceIdeal.Front
-- ==== Proof.RefResult.lean ====
/- The reference's results are the formulas of its arguments. -/
module

public import proofs.«01_k».proof.Proof.RefValue
public import proofs.«01_k».proof.Proof.Gen.ReferenceIdeal.Run
public import Idealize.ShloMosaic.Lib.StableHlo.RunRead
public import Idealize.ShloMosaic.Lib.StableHlo.ReadAt
public import Idealize.ShloMosaic.Lib.Pointwise

@[expose] public section

set_option maxRecDepth 16384

noncomputable section

open Idealize.ShloMosaic Idealize.ShloMosaic.Tactic Idealize.ShloMosaic.TcCoe Idealize.ShloMosaic.StableHlo

namespace Cert.ReferenceIdeal.Front

open Cert.ReferenceIdeal Cert.ReferenceIdeal.Gen Cert.ReferenceIdeal.Value Cert.Front
open Idealize.SL.Sem

variable (W : Valuation τ sig (Elt Ideal))

variable (m : (ℓ : Loc nD τ sig) → Buf (Elt Ideal) ℓ) (c : Dev nD)

/-- The arguments of core `c`. -/
abbrev inp0 : Inp := inp (launchContents m c)

/-- The contents before the loop, line by line. -/
theorem entry_eq : entryContents preI m c
    = after hostOps0_2 (after hostOps0_1 (after lineC (after lineB (after lineA (launchContents m c))))) := by
  show after hostOps0_2 (after hostOps0_1 (after hostOps0 (launchContents m c))) = _
  rw [cut_lines]

/-- The convolution before the loop. -/
theorem conv_entry (b : Fin 8) (t : Fin 2048) (n : Fin 512) :
    @Eq EReal (after lineB (after lineA (launchContents m c)) (Proc.devRef .tc main_v60) (ix3 b t n)) (conv (inp0 m c) b t n) := by
  have h := B_60 (after lineA (launchContents m c)) (by rw [inp_A]; exact A_22 (launchContents m c)) b t n
  rwa [inp_A] at h

/-- The convolution's value is among the inputs of the gates' lines. -/
theorem conv_gate (b : Fin 8) (t : Fin 2048) (n : Fin 512) :
    @Eq EReal (after lineB (after lineA (launchContents m c)) (Proc.devRef .tc main_v60) (ix3 b t n))
      (conv (inp (after lineB (after lineA (launchContents m c)))) b t n) := by
  rw [inp_B, inp_A]
  exact conv_entry m c b t n

/-- The multipliers that the loop reads. -/
theorem enter_0 (t : Fin 2048) (b : Fin 8) (n : Fin 512) :
    @Eq EReal (entryContents preI m c (Proc.devRef .tc main_v110_0) (ix3 t b n)) (aAt (inp0 m c) b n t) := by
  rw [entry_eq, E_0, (pass_D _).2.2.2.2.2.2.2.1, D_95, C_93 _ (conv_gate m c), C_94, inp_B, inp_A]
  rfl

/-- The addends that the loop reads. -/
theorem enter_1 (t : Fin 2048) (b : Fin 8) (n : Fin 512) :
    @Eq EReal (entryContents preI m c (Proc.devRef .tc main_v110_1) (ix3 t b n)) (dAt (inp0 m c) b n t) := by
  rw [entry_eq, E_1, (pass_D _).2.2.2.2.2.2.2.1, (pass_D _).2.2.2.2.2.2.1, (pass_D _).2.2.2.2.2.1, D_95, C_93 _ (conv_gate m c), C_94,
    C_91 _ (conv_gate m c), (pass_C _).2.2.2.2.2, conv_gate, inp_B, inp_A]
  rfl

/-- The state starts at zero. -/
theorem enter_3 (b : Fin 8) (n : Fin 512) :
    @Eq EReal (entryContents preI m c (Proc.devRef .tc main_v110_3) (ix2 b n)) 0 := by
  rw [entry_eq, E_3, (pass_D _).2.2.2.2.2.2.2.2, C_61]

/-- The projection's pieces at the loop's entry. -/
theorem enter_pieces :
    entryContents preI m c (Proc.devRef .tc main_v22) = after lineA (launchContents m c) (Proc.devRef .tc main_v22)
    ∧ entryContents preI m c (Proc.devRef .tc main_v23) = after lineA (launchContents m c) (Proc.devRef .tc main_v23)
    ∧ entryContents preI m c (Proc.devRef .tc main_v24) = after lineA (launchContents m c) (Proc.devRef .tc main_v24)
    ∧ entryContents preI m c (Proc.devRef .tc main_v25) = after lineA (launchContents m c) (Proc.devRef .tc main_v25)
    ∧ entryContents preI m c (Proc.devRef .tc main_v26) = after lineA (launchContents m c) (Proc.devRef .tc main_v26) := by
  rw [entry_eq]
  obtain ⟨e1, e2, e3, e4, e5⟩ := pass_E (after hostOps0_1 (after lineC (after lineB (after lineA (launchContents m c)))))
  obtain ⟨d1, d2, d3, d4, d5, -⟩ := pass_D (after lineC (after lineB (after lineA (launchContents m c))))
  obtain ⟨c1, c2, c3, c4, c5, -⟩ := pass_C (after lineB (after lineA (launchContents m c)))
  obtain ⟨b1, b2, b3, b4, b5⟩ := pass_B (after lineA (launchContents m c))
  exact ⟨e1.trans (d1.trans (c1.trans b1)), e2.trans (d2.trans (c2.trans b2)), e3.trans (d3.trans (c3.trans b3)),
    e4.trans (d4.trans (c4.trans b4)), e5.trans (d5.trans (c5.trans b5))⟩

/-- The arguments at the loop's entry. -/
theorem enter_inp : inp (entryContents preI m c) = inp0 m c := by
  rw [entry_eq, inp_E, inp_D, inp_C, inp_B, inp_A]

/-- The loop leaves the pieces and the keys' scale as they were. -/
theorem atK_pieces (k : ℕ) :
    atK m k c (Proc.devRef .tc main_v22) = entryContents preI m c (Proc.devRef .tc main_v22)
    ∧ atK m k c (Proc.devRef .tc main_v23) = entryContents preI m c (Proc.devRef .tc main_v23)
    ∧ atK m k c (Proc.devRef .tc main_v24) = entryContents preI m c (Proc.devRef .tc main_v24)
    ∧ atK m k c (Proc.devRef .tc main_v25) = entryContents preI m c (Proc.devRef .tc main_v25)
    ∧ atK m k c (Proc.devRef .tc main_v26) = entryContents preI m c (Proc.devRef .tc main_v26)
    ∧ atK m k c (Proc.devRef .tc main_arg12) = entryContents preI m c (Proc.devRef .tc main_arg12) := by
  induction k with
  | zero => exact ⟨rfl, rfl, rfl, rfl, rfl, rfl⟩
  | succ k ih =>
    obtain ⟨i1, i2, i3, i4, i5, i6⟩ := ih
    obtain ⟨h1, h2, h3, h4, h5, h6⟩ := pass_trip (atK m k c)
    exact ⟨h1.trans i1, h2.trans i2, h3.trans i3, h4.trans i4, h5.trans i5, h6.trans i6⟩

/-- The contents after the loop. -/
abbrev done : Valuation τ sig (Elt Ideal) := after condOps (atK m 2048 c)

/-- The last state. -/
theorem done_3 (b : Fin 8) (n : Fin 512) :
    @Eq EReal (done m c (Proc.devRef .tc main_v110_3) (ix2 b n)) (state (inp0 m c) b n 2048) := by
  obtain ⟨-, -, h3, -⟩ := loop_inv m c (inp0 m c) (enter_0 m c) (enter_1 m c) (enter_3 m c) 2048 le_rfl
  unfold done
  rw [(pass_cond _).2.2.2.2.2.2.1, atK_agree m c 2048 main_v110_3 (by decide)]
  exact h3 b n

/-- The collected states. -/
theorem done_4 (t : Fin 2048) (b : Fin 8) (n : Fin 512) :
    @Eq EReal (done m c (Proc.devRef .tc main_v110_4) (ix3 t b n)) (state (inp0 m c) b n (t.val + 1)) := by
  obtain ⟨-, -, -, h4⟩ := loop_inv m c (inp0 m c) (enter_0 m c) (enter_1 m c) (enter_3 m c) 2048 le_rfl
  unfold done
  rw [(pass_cond _).2.2.2.2.2.2.2, atK_agree m c 2048 main_v110_4 (by decide)]
  exact h4 t b n t.isLt

/-- The recurrent piece after the loop. -/
theorem done_22 (b : Fin 8) (t : Fin 2048) (n : Fin 512) :
    @Eq EReal (done m c (Proc.devRef .tc main_v22) (ix3 b t n)) (proj (inp0 m c) b t ⟨n.val, by omega⟩) := by
  unfold done
  rw [(pass_cond _).1, (atK_pieces m c 2048).1, (enter_pieces m c).1]
  exact A_22 _ b t n
/-- The gate piece after the loop. -/
theorem done_23 (b : Fin 8) (t : Fin 2048) (n : Fin 512) :
    @Eq EReal (done m c (Proc.devRef .tc main_v23) (ix3 b t n)) (proj (inp0 m c) b t ⟨512 + n.val, by omega⟩) := by
  unfold done
  rw [(pass_cond _).2.1, (atK_pieces m c 2048).2.1, (enter_pieces m c).2.1]
  exact A_23 _ b t n
/-- The query piece after the loop. -/
theorem done_24 (b : Fin 8) (t : Fin 2048) (n : Fin 512) :
    @Eq EReal (done m c (Proc.devRef .tc main_v24) (ix3 b t n)) (proj (inp0 m c) b t ⟨1024 + n.val, by omega⟩) := by
  unfold done
  rw [(pass_cond _).2.2.1, (atK_pieces m c 2048).2.2.1, (enter_pieces m c).2.2.1]
  exact A_24 _ b t n
/-- The key piece after the loop. -/
theorem done_25 (b : Fin 8) (t : Fin 2048) (l : Fin 128) :
    @Eq EReal (done m c (Proc.devRef .tc main_v25) (ix3 b t l)) (proj (inp0 m c) b t ⟨1536 + l.val, by omega⟩) := by
  unfold done
  rw [(pass_cond _).2.2.2.1, (atK_pieces m c 2048).2.2.2.1, (enter_pieces m c).2.2.2.1]
  exact A_25 _ b t l
/-- The value piece after the loop. -/
theorem done_26 (b : Fin 8) (t : Fin 2048) (l : Fin 128) :
    @Eq EReal (done m c (Proc.devRef .tc main_v26) (ix3 b t l)) (proj (inp0 m c) b t ⟨1664 + l.val, by omega⟩) := by
  unfold done
  rw [(pass_cond _).2.2.2.2.1, (atK_pieces m c 2048).2.2.2.2.1, (enter_pieces m c).2.2.2.2]
  exact A_26 _ b t l
/-- The key norm's weights after the loop. -/
theorem done_arg12 (j : Fin 64) :
    @Eq EReal (done m c (Proc.devRef .tc main_arg12) (ix2 0 j)) ((inp0 m c).kn j) := by
  unfold done
  rw [(pass_cond _).2.2.2.2.2.1, (atK_pieces m c 2048).2.2.2.2.2, ← enter_inp]
  rfl

/-! ## The results -/

/-- The contents at the program's end. -/
abbrev fin0 : Valuation τ sig (Elt Ideal) := finalContents condOps preI bodyI postI 2048 m c

/-- The result of the recurrent branch. -/
theorem fin_outR (b : Fin 8) (t : Fin 2048) (n : Fin 512) :
    @Eq EReal (fin0 m c (Proc.devRef .tc main_v125) (ix3 b t n)) (outR (inp0 m c) b t n) := by
  refine (F_125 (done m c) b t n).trans ?_
  rw [done_4, done_23]
  rfl
/-- The queries. -/
theorem fin_outQ (b : Fin 8) (t : Fin 2048) (n : Fin 512) :
    @Eq EReal (fin0 m c (Proc.devRef .tc main_v144) (ix3 b t n)) (outQ (inp0 m c) b t n) := by
  refine (F_144 (done m c) b t n).trans ?_
  rw [done_24]
  refine congrArg (proj (inp0 m c) b t) (Fin.ext ?_)
  show 1024 + (n.val / 64 % 2 * 256 + n.val / 128 * 64 + n.val % 64) = 1024 + (256 * (n.val / 64 % 2) + 64 * (n.val / 128) + n.val % 64)
  omega
/-- The keys. -/
theorem fin_outK (b : Fin 8) (t : Fin 2048) (l : Fin 128) :
    @Eq EReal (fin0 m c (Proc.devRef .tc main_v141) (ix3 b t l)) (outK (inp0 m c) b t l) := by
  refine (F_141 (done m c) b t l).trans ?_
  rw [done_25, done_arg12, show (fun i : Fin 64 => done m c (Proc.devRef .tc main_v25) (ix3 b t ⟨64 * (l.val / 64) + i.val, by omega⟩)) = fun i : Fin 64 => proj (inp0 m c) b t ⟨1536 + (64 * (l.val / 64) + i.val), by omega⟩ from funext fun i => done_25 m c b t ⟨64 * (l.val / 64) + i.val, by omega⟩]
  rfl
/-- The values. -/
theorem fin_outV (b : Fin 8) (t : Fin 2048) (l : Fin 128) :
    @Eq EReal (fin0 m c (Proc.devRef .tc main_v26) (ix3 b t l)) (outV (inp0 m c) b t l) :=
  (congrFun (F_26 (done m c)) (ix3 b t l)).trans (done_26 m c b t l)
/-- The recurrent piece's last rows. -/
theorem fin_outC (b : Fin 8) (r : Fin 8) (n : Fin 512) :
    @Eq EReal (fin0 m c (Proc.devRef .tc main_v145) (ix3 b r n)) (outC (inp0 m c) b r n) :=
  (F_145 (done m c) b r n).trans (done_22 m c b _ n)
/-- The final states. -/
theorem fin_outH (b : Fin 8) (n : Fin 512) :
    @Eq EReal (fin0 m c (Proc.devRef .tc main_v146) (ix3 b 0 n)) (outH (inp0 m c) b n) :=
  (F_146 (done m c) b n).trans (done_3 m c b n)

/-! ## The arguments stay as they were -/

/-- What the lines after the loop write, in order. -/
abbrev hostOps0_3_W : List (Ref sig .tc) := [main_v111, main_v112, main_v113, main_cst_12, main_v114, main_v115, main_v116, main_cst_13, main_v117, main_v118, main_v119, main_cst_14, main_v120, main_v121, main_cst_15, main_v122, main_v123, main_v124, main_v125, main_v126, main_v127, main_v128, main_cst_16, main_v129, main_v130, main_cst_17, main_v131, main_v132, main_cst_18, main_v133, main_v134, main_v135, main_v136, main_v137, main_v138, main_v139, main_v140, main_v141, main_v142, main_v143, main_v144, main_v145, main_v146]
/-- The last lines write these arrays alone. -/
theorem hostOps0_3_writes : (hostOps0_3 : List (HloOp τ sig (Elt Ideal))).Forall fun op => op.writes ⊆ (hostOps0_3_W.map (Proc.devRef (τ := τ) .tc)).toFinset :=
  StableHlo.forall_writes_sub_of_map rfl

/-- A buffer that no line writes. -/
abbrev Kept (r : Ref sig .tc) : Prop :=
  (((((((((r ∉ hostOps0_W ∧ r ∉ hostOps0_1_W) ∧ r ∉ hostOps0_2_W) ∧ r ∉ hostOps0_3_W) ∧ r ∉ condOps_W) ∧ r ∉ while0Ops0_W)
    ∧ r ∉ while0Ops0_1_W) ∧ r ∉ while0Ops0_2_W) ∧ r ∉ while0Ops0_3_W) ∧ r ∉ while0Ops0_4_W)

/-- One trip leaves it as it was. -/
theorem trip_keep (r : Ref sig .tc) (h : Kept r) : afterL bodyI (after condOps W) (Proc.devRef .tc r) = W (Proc.devRef .tc r) := by
  obtain ⟨⟨⟨⟨⟨⟨⟨⟨⟨-, -⟩, -⟩, -⟩, hc⟩, h0⟩, h1⟩, h2⟩, h3⟩, h4⟩ := h
  show after while0Ops0_4 (after while0Ops0_3 (after while0Ops0_2 (after while0Ops0_1 (after while0Ops0 (after condOps W))))) _ = _
  exact (after_of_writes_sub _ _ while0Ops0_4_writes h4).trans ((after_of_writes_sub _ _ while0Ops0_3_writes h3).trans
    ((after_of_writes_sub _ _ while0Ops0_2_writes h2).trans ((after_of_writes_sub _ _ while0Ops0_1_writes h1).trans
      ((after_of_writes_sub _ _ while0Ops0_writes h0).trans (after_of_writes_sub _ _ condOps_writes hc)))))

/-- Every trip does. -/
theorem atK_keep (r : Ref sig .tc) (h : Kept r) (k : ℕ) : atK m k c (Proc.devRef .tc r) = entryContents preI m c (Proc.devRef .tc r) := by
  induction k with
  | zero => rfl
  | succ k ih => exact (trip_keep (atK m k c) r h).trans ih

/-- It ends as it was launched. -/
theorem fin_keep (r : Ref sig .tc) (h : Kept r) : fin0 m c (Proc.devRef .tc r) = m ((c.tc : Thread nD τ).loc r) := by
  have hk := atK_keep m c r h 2048
  obtain ⟨⟨⟨⟨⟨⟨⟨⟨⟨p0, p1⟩, p2⟩, p3⟩, hc⟩, -⟩, -⟩, -⟩, -⟩, -⟩ := h
  show after hostOps0_3 (after condOps (atK m 2048 c)) _ = _
  refine (after_of_writes_sub _ _ hostOps0_3_writes p3).trans ((after_of_writes_sub _ _ condOps_writes hc).trans (hk.trans ?_))
  show after hostOps0_2 (after hostOps0_1 (after hostOps0 (launchContents m c))) _ = _
  exact (after_of_writes_sub _ _ hostOps0_2_writes p2).trans ((after_of_writes_sub _ _ hostOps0_1_writes p1).trans
    (after_of_writes_sub _ _ hostOps0_writes p0))

/-- The run: each result at its formula's array, the arguments as they were. -/
theorem run (ρ : Dev nD → PrngReg) : θ_run defs (onTc (τ := τ) (main (F := Ideal))) ⟨m, fun _ => 0, ρ⟩ fun r => ∀ c : Dev nD,
    (r.2.mem ((c.tc : Thread nD τ).loc main_v125) = fin0 m c (Proc.devRef .tc main_v125)
    ∧ r.2.mem ((c.tc : Thread nD τ).loc main_v144) = fin0 m c (Proc.devRef .tc main_v144)
    ∧ r.2.mem ((c.tc : Thread nD τ).loc main_v141) = fin0 m c (Proc.devRef .tc main_v141)
    ∧ r.2.mem ((c.tc : Thread nD τ).loc main_v26) = fin0 m c (Proc.devRef .tc main_v26)
    ∧ r.2.mem ((c.tc : Thread nD τ).loc main_v145) = fin0 m c (Proc.devRef .tc main_v145)
    ∧ r.2.mem ((c.tc : Thread nD τ).loc main_v146) = fin0 m c (Proc.devRef .tc main_v146))
    ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)) :=
  (θ_run defs _ _).mono (fun _ h c => ⟨⟨h c main_v125 rfl, h c main_v144 rfl, h c main_v141 rfl, h c main_v26 rfl, h c main_v145 rfl, h c main_v146 rfl⟩,
    ⟨(h c main_arg0 rfl).trans (fin_keep m c main_arg0 (by decide)),
    (h c main_arg1 rfl).trans (fin_keep m c main_arg1 (by decide)),
    (h c main_arg2 rfl).trans (fin_keep m c main_arg2 (by decide)),
    (h c main_arg3 rfl).trans (fin_keep m c main_arg3 (by decide)),
    (h c main_arg4 rfl).trans (fin_keep m c main_arg4 (by decide)),
    (h c main_arg5 rfl).trans (fin_keep m c main_arg5 (by decide)),
    (h c main_arg6 rfl).trans (fin_keep m c main_arg6 (by decide)),
    (h c main_arg7 rfl).trans (fin_keep m c main_arg7 (by decide)),
    (h c main_arg8 rfl).trans (fin_keep m c main_arg8 (by decide)),
    (h c main_arg9 rfl).trans (fin_keep m c main_arg9 (by decide)),
    (h c main_arg10 rfl).trans (fin_keep m c main_arg10 (by decide)),
    (h c main_arg11 rfl).trans (fin_keep m c main_arg11 (by decide)),
    (h c main_arg12 rfl).trans (fin_keep m c main_arg12 (by decide))⟩⟩)
    (run_fold m ρ)

end Cert.ReferenceIdeal.Front
-- ==== Proof.PSpec.lean ====
/- What the second call computes: the residual stream after the mixed branches' projection. -/
module

public import Mathlib.Data.EReal.Operations
public import Mathlib.Algebra.BigOperators.Fin

@[expose] public section

noncomputable section

namespace Cert.Post

/-- The inputs: the stream, the two branches, the gate and the projection's weights. -/
structure Inp where
  x : Fin 8 → Fin 2048 → Fin 1024 → EReal
  r : Fin 8 → Fin 2048 → Fin 512 → EReal
  a : Fin 8 → Fin 2048 → Fin 512 → EReal
  g : Fin 8 → Fin 1024 → EReal
  w : Fin 1024 → Fin 1024 → EReal

/-- The place among the heads in order of a lane of the heads taken in pairs. -/
def toPlain (k : Fin 512) : Fin 512 := ⟨k.val / 64 % 2 * 256 + k.val / 128 * 64 + k.val % 64, by omega⟩

/-- The lane of the heads taken in pairs that holds a place among the heads in order. -/
def toPair (e : Fin 512) : Fin 512 := ⟨e.val / 64 % 4 * 128 + e.val / 256 * 64 + e.val % 64, by omega⟩

/-- The two orders are each other's inverse. -/
def order : Fin 512 ≃ Fin 512 where
  toFun := toPlain
  invFun := toPair
  left_inv := by decide +kernel
  right_inv := by decide +kernel

/-- The new stream: the old one plus the gate times the projection, the second branch's weights taken in the order of its lanes. -/
def mix (p : Inp) (b : Fin 8) (t : Fin 2048) (n : Fin 1024) : EReal :=
  p.x b t n + p.g b n * (∑ k : Fin 512, p.r b t k * p.w ⟨k.val, by omega⟩ n + ∑ k : Fin 512, p.a b t k * p.w ⟨512 + (toPlain k).val, by omega⟩ n)

/-- The same with both branches in one row and the second branch's lanes taken in the order of the heads. -/
theorem mix_eq (p : Inp) (b : Fin 8) (t : Fin 2048) (n : Fin 1024) (f : Fin 1024 → EReal)
    (hr : ∀ k : Fin 512, f ⟨k.val, by omega⟩ = p.r b t k) (ha : ∀ e : Fin 512, f ⟨512 + e.val, by omega⟩ = p.a b t (toPair e)) :
    p.x b t n + p.g b n * ∑ k, f k * p.w k n = mix p b t n := by
  have h : ∑ k, f k * p.w k n = ∑ k : Fin 512, f ⟨k.val, by omega⟩ * p.w ⟨k.val, by omega⟩ n + ∑ k : Fin 512, f ⟨512 + k.val, by omega⟩ * p.w ⟨512 + k.val, by omega⟩ n :=
    Fin.sum_univ_add (a := 512) (b := 512) fun k => f k * p.w k n
  have h2 : ∑ k : Fin 512, p.a b t k * p.w ⟨512 + (toPlain k).val, by omega⟩ n = ∑ e : Fin 512, p.a b t (toPair e) * p.w ⟨512 + e.val, by omega⟩ n := by
    refine (Equiv.sum_comp order.symm fun k => p.a b t k * p.w ⟨512 + (toPlain k).val, by omega⟩ n).symm.trans ?_
    refine Finset.sum_congr rfl fun e _ => ?_
    refine congrArg₂ (fun a b : EReal => a * b) rfl (congrArg (fun q => p.w q n) (Fin.ext ?_))
    exact congrArg (fun q : Fin 512 => 512 + q.val) (order.right_inv e)
  unfold mix
  rw [h, h2]
  simp only [hr, ha]

end Cert.Post

end
-- ==== Proof.PPoint.lean ====
/- What the second call's body stores of the stream, at an index of its block. -/
module

public import proofs.«01_k».proof.Proof.PSpec
public import proofs.«01_k».proof.Proof.Gen.Kernel2Ideal.Value
public import Idealize.ShloMosaic.Lib.StableHlo.RunRead
public import Idealize.ShloMosaic.Lib.Pipeline.ValueKit.Geometry
public import Idealize.ShloMosaic.Lib.Pointwise
public import Idealize.ShloMosaic.Lib.StableHlo.ReadAt

@[expose] public section

set_option maxRecDepth 16384

noncomputable section

open Idealize.ShloMosaic Idealize.ShloMosaic.Tactic Idealize.ShloMosaic.TcCoe

namespace Cert.Kernel2Ideal.Post

open Cert.Kernel2Ideal Cert.Kernel2Ideal.Gen Cert.Kernel2Ideal.Value Cert.Post

/-- Two offsets of zero. -/
theorem hz2 : (![0, 0] : Fin 2 → Nat) = fun _ => 0 := funext fun a => by fin_cases a <;> rfl
/-- Three offsets of zero. -/
theorem hz3 : (![0, 0, 0] : Fin 3 → Nat) = fun _ => 0 := funext fun a => by fin_cases a <;> rfl

/-- A load of the whole buffer holding `X` is `X`. -/
theorem whole_read {sp : Space} {S : Shape} {e : EltTy} (mm : Memref sig .tc sp S e) (h : mm.IsWhole) (X : S.Idx → Elt Ideal e)
    {off : Fin S.rank → Nat} (hz : off = fun _ => 0) (inb : ∀ a, off a + S.size a ≤ S.size a) :
    mm.view.readAt (Elt Ideal) (Rect.unit off S.size inb).toLoadRect (h.unread X) = X := by
  rw [View.readAt_eq_ld, h.read_unread, View.ld_unit_zero hz]

/-- The stored stream at a row and a column of the block. -/
theorem pay4_apply (r a : FVec Ideal S512x512 .f32) (w wo : FVec Ideal S512x1024 .bf16) (x : FVec Ideal S512x1024 .f32)
    (g : FVec Ideal S1x1x1024 .f32) (i : Fin 512) (n : Fin 1024) :
    @Eq EReal (k0_pay4 (F := Ideal) r w a wo x g (ix2 i n))
      (x (ix2 i n) + g (ix3 0 0 n) * (∑ k : Fin 512, r (ix2 i k) * w (ix2 k n) + ∑ k : Fin 512, a (ix2 i k) * wo (ix2 k n))) := by
  pointwise [k0_pay4]

variable (m : (ℓ : Loc nD τ sig) → Buf (Elt Ideal) ℓ) (c : Dev nD)

set_option maxHeartbeats 1000000 in
/-- Every point stores it, of the blocks read there. -/
theorem point (t : Fin cfg0.N) (acc) :
    (stAt0 m c t.val t.isLt acc).1 = k0_pay4 (F := Ideal) (iblk m c 1 t) (iblk m c 7 t) (iblk m c 2 t) (iblk m c 8 t) (iblk m c 0 t) (iblk m c 3 t) := by
  by_cases h0 : t.val % 32 = 0
  · rw [stAt0_A m c t acc h0]
    dsimp only
    unfold out0_A_12
    refine (View.read_writes_eq_canon _ _ _ (by intro y; exact cover0_A_12 ..)).trans ?_
    unfold kernelRun0_A
    dsimp only
    rw [View.canon_unit_zero hz2]
    sl_unfold_words
    rw [whole_read (ms0_0 t) (hs0_0 t) (iblk m c 0 t) hz2,
      whole_read (ms0_1 t) (hs0_1 t) (iblk m c 1 t) hz2,
      whole_read (ms0_2 t) (hs0_2 t) (iblk m c 2 t) hz2,
      whole_read (ms0_3 t) (hs0_3 t) (iblk m c 3 t) hz3,
      whole_read (ms0_7 t) (hs0_7 t) (iblk m c 7 t) hz2,
      whole_read (ms0_8 t) (hs0_8 t) (iblk m c 8 t) hz2]
  · rw [stAt0_B m c t acc h0]
    dsimp only
    unfold out0_B_12
    refine (View.read_writes_eq_canon _ _ _ (by intro y; exact cover0_B_12 ..)).trans ?_
    unfold kernelRun0_B
    dsimp only
    rw [View.canon_unit_zero hz2]
    sl_unfold_words
    rw [whole_read (ms0_0 t) (hs0_0 t) (iblk m c 0 t) hz2,
      whole_read (ms0_1 t) (hs0_1 t) (iblk m c 1 t) hz2,
      whole_read (ms0_2 t) (hs0_2 t) (iblk m c 2 t) hz2,
      whole_read (ms0_3 t) (hs0_3 t) (iblk m c 3 t) hz3,
      whole_read (ms0_7 t) (hs0_7 t) (iblk m c 7 t) hz2,
      whole_read (ms0_8 t) (hs0_8 t) (iblk m c 8 t) hz2]

end Cert.Kernel2Ideal.Post

end
-- ==== Proof.PValue.lean ====
/- The second call's stream at an index is the formula of its arguments. -/
module

public import proofs.«01_k».proof.Proof.PPoint

@[expose] public section

set_option maxRecDepth 16384

noncomputable section

open Idealize.ShloMosaic Idealize.ShloMosaic.Tactic Idealize.ShloMosaic.TcCoe

namespace Cert.Kernel2Ideal.Post

open Cert.Kernel2Ideal Cert.Kernel2Ideal.Gen Cert.Kernel2Ideal.Value Cert.Post

variable (m : (ℓ : Loc nD τ sig) → Buf (Elt Ideal) ℓ) (c : Dev nD)

/-- The kernel's arguments as the inputs. -/
def inp : Inp where
  x b t n := m ((c : Thread nD τ).loc main_arg0) (ix3 b t n)
  r b t k := m ((c : Thread nD τ).loc main_arg1) (ix3 b t k)
  a b t k := m ((c : Thread nD τ).loc main_arg2) (ix3 b t k)
  g b n := m ((c : Thread nD τ).loc main_arg3) (ix3 b 0 n)
  w k n := m ((c : Thread nD τ).loc main_arg7) (ix3 0 k n)

/-! ## The arrays the host hands to the kernel -/

/-- The stream with the sequences one after the other. -/
theorem host_x (s : Fin 16384) (n : Fin 1024) :
    @Eq EReal (V m c main_v13 (ix2 s n)) (m ((c : Thread nD τ).loc main_arg0) (ix3 (⟨s.val / 2048, by omega⟩ : Fin 8) (⟨s.val % 2048, by omega⟩ : Fin 2048) n)) := by
  entry_read
  pointwise

/-- The first branch likewise. -/
theorem host_r (s : Fin 16384) (n : Fin 512) :
    @Eq EReal (V m c main_v14 (ix2 s n)) (m ((c : Thread nD τ).loc main_arg1) (ix3 (⟨s.val / 2048, by omega⟩ : Fin 8) (⟨s.val % 2048, by omega⟩ : Fin 2048) n)) := by
  entry_read
  pointwise

/-- The second branch likewise. -/
theorem host_a (s : Fin 16384) (n : Fin 512) :
    @Eq EReal (V m c main_v15 (ix2 s n)) (m ((c : Thread nD τ).loc main_arg2) (ix3 (⟨s.val / 2048, by omega⟩ : Fin 8) (⟨s.val % 2048, by omega⟩ : Fin 2048) n)) := by
  entry_read
  pointwise

/-- The first branch's weights. -/
theorem host_w (k : Fin 512) (n : Fin 1024) :
    @Eq EReal (V m c main_v4 (ix2 k n)) (m ((c : Thread nD τ).loc main_arg7) (ix3 0 (⟨k.val, by omega⟩ : Fin 1024) n)) := by
  entry_read
  pointwise

/-- The second branch's weights, in the order of its lanes. -/
theorem host_wo (k : Fin 512) (n : Fin 1024) :
    @Eq EReal (V m c main_v18 (ix2 k n)) (m ((c : Thread nD τ).loc main_arg7) (ix3 0 (⟨512 + (toPlain k).val, by omega⟩ : Fin 1024) n)) := by
  entry_read
  pointwise [toPlain]

/-! ## The blocks a grid point reads of them -/

/-- Where each operand's block lies. -/
theorem idx : ∀ t : Fin cfg0.N, win0_0.index t = ![t.val, 0] ∧ win0_1.index t = ![t.val, 0] ∧ win0_2.index t = ![t.val, 0]
    ∧ win0_3.index t = ![t.val / 4, 0, 0] ∧ win0_7.index t = ![0, 0] ∧ win0_8.index t = ![0, 0] :=
  (by decide +kernel : ∀ t : Fin grid0.N, _)

/-- There are 32 points. -/
theorem pt_lt (t : Fin cfg0.N) : t.val < 32 := lt_of_lt_of_eq t.isLt N_0

/-- The row of the arrays of a point's row. -/
abbrev rowOf (t : Fin cfg0.N) (i : Fin 512) : Fin 16384 := ⟨512 * t.val + i.val, by have := pt_lt t; omega⟩
/-- The sequence of a point. -/
abbrev bt (t : Fin cfg0.N) : Fin 8 := ⟨t.val / 4, by have := pt_lt t; omega⟩

/-- The stream's block. -/
theorem blk_x (t : Fin cfg0.N) (i : Fin 512) (n : Fin 1024) : @Eq EReal (iblk m c 0 t (ix2 i n)) (V m c main_v13 (ix2 (rowOf t i) n)) := by
  have := pt_lt t
  blk_ext [iblk, idx t, rowOf]

/-- The first branch's. -/
theorem blk_r (t : Fin cfg0.N) (i : Fin 512) (n : Fin 512) : @Eq EReal (iblk m c 1 t (ix2 i n)) (V m c main_v14 (ix2 (rowOf t i) n)) := by
  have := pt_lt t
  blk_ext [iblk, idx t, rowOf]

/-- The second branch's. -/
theorem blk_a (t : Fin cfg0.N) (i : Fin 512) (n : Fin 512) : @Eq EReal (iblk m c 2 t (ix2 i n)) (V m c main_v15 (ix2 (rowOf t i) n)) := by
  have := pt_lt t
  blk_ext [iblk, idx t, rowOf]

/-- The gate's. -/
theorem blk_g (t : Fin cfg0.N) (n : Fin 1024) : @Eq EReal (iblk m c 3 t (ix3 0 0 n)) ((inp m c).g (bt t) n) := by
  have := pt_lt t
  blk_ext [iblk, V, idx t, bt, inp]

/-- The first branch's weights. -/
theorem blk_w (t : Fin cfg0.N) (k : Fin 512) (n : Fin 1024) : @Eq EReal (iblk m c 7 t (ix2 k n)) (V m c main_v4 (ix2 k n)) := by
  have := pt_lt t
  blk_ext [iblk, idx t]

/-- The second branch's weights. -/
theorem blk_wo (t : Fin cfg0.N) (k : Fin 512) (n : Fin 1024) : @Eq EReal (iblk m c 8 t (ix2 k n)) (V m c main_v18 (ix2 k n)) := by
  have := pt_lt t
  blk_ext [iblk, idx t]

/-! ## What a point stores -/

/-- What stands after a point comes of what stood before. -/
theorem at0_step (t : Fin cfg0.N) : ∃ acc, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- The stream a point stores. -/
theorem at_x (t : Fin cfg0.N) (i : Fin 512) (n : Fin 1024) (b : Fin 8) (p : Fin 2048) (hb : t.val / 4 = b.val) (hp : 512 * (t.val % 4) + i.val = p.val) :
    @Eq EReal ((outsAt0 m c t.val t.isLt).1 (ix2 i n)) (mix (inp m c) b p n) := by
  obtain ⟨acc, e⟩ := at0_step m c t
  have hlt := pt_lt t
  have e1 : (⟨(rowOf t i).val / 2048, by omega⟩ : Fin 8) = b := Fin.ext (by show (512 * t.val + i.val) / 2048 = b.val; omega)
  have e2 : (⟨(rowOf t i).val % 2048, by omega⟩ : Fin 2048) = p := Fin.ext (by show (512 * t.val + i.val) % 2048 = p.val; omega)
  have e3 : bt t = b := Fin.ext hb
  have hx : @Eq EReal (iblk m c 0 t (ix2 i n)) ((inp m c).x b p n) := by
    refine ((blk_x m c t i n).trans (host_x m c _ n)).trans ?_
    rw [e1, e2]
    rfl
  have hr : ∀ k, @Eq EReal (iblk m c 1 t (ix2 i k)) ((inp m c).r b p k) := fun k => by
    refine ((blk_r m c t i k).trans (host_r m c _ k)).trans ?_
    rw [e1, e2]
    rfl
  have ha : ∀ k, @Eq EReal (iblk m c 2 t (ix2 i k)) ((inp m c).a b p k) := fun k => by
    refine ((blk_a m c t i k).trans (host_a m c _ k)).trans ?_
    rw [e1, e2]
    rfl
  have hg : @Eq EReal (iblk m c 3 t (ix3 0 0 n)) ((inp m c).g b n) := by
    refine (blk_g m c t n).trans ?_
    rw [e3]
  rw [e, point m c t acc]
  refine (pay4_apply _ _ _ _ _ _ i n).trans ?_
  unfold mix
  refine congrArg₂ (fun u v : EReal => u + v) hx (congrArg₂ (fun u v : EReal => u * v) hg (congrArg₂ (fun u v : EReal => u + v) ?_ ?_))
  · exact Finset.sum_congr rfl fun k _ => congrArg₂ (fun u v : EReal => u * v) (hr k) ((blk_w m c t k n).trans (host_w m c k n))
  · exact Finset.sum_congr rfl fun k _ => congrArg₂ (fun u v : EReal => u * v) (ha k) ((blk_wo m c t k n).trans (host_wo m c k n))

/-! ## The array -/

/-- The point that writes a row. -/
abbrev ptOf (s : Fin 16384) : Fin cfg0.N := ⟨s.val / 512, lt_of_lt_of_eq (by omega) N_0.symm⟩

/-- The fold up to a point is what stands after it. -/
theorem fold_eq (t : Fin cfg0.N) (j : ℕ) (h : 0 + j < cfg0.N) (hj : j = t.val) :
    Pipeline.accAt (fun n h => stAt0 m c n h junk0) (stAt0 m c) 0 j h = outsAt0 m c t.val t.isLt := by
  subst hj
  exact (outsAt0_sweep m c t.val t.isLt).symm

/-- The array of the stream. -/
theorem G12_eq (s : Fin 16384) (n : Fin 1024) :
    @Eq EReal (G12 m c (ix2 s n)) (mix (inp m c) ⟨s.val / 2048, by omega⟩ ⟨s.val % 2048, by omega⟩ n) := by
  have hp : pt12Of (ix2 s n) = (ptOf s).val := by
    show 1 * (s.val / 512 - 0) + 1 * (n.val / 1024 - 0) = s.val / 512
    omega
  have hl : loc12Of (ix2 s n) = ix2 (⟨s.val % 512, by omega⟩ : Fin 512) n := by
    funext a; apply Fin.ext
    match a with
    | ⟨0, _⟩ => rfl
    | ⟨1, _⟩ => show n.val % 1024 = n.val; omega
  refine (dif_pos (by rw [hp]; exact (ptOf s).isLt)).trans ?_
  rw [fold_eq m c (ptOf s) _ _ hp, hl]
  refine at_x m c _ _ n _ _ ?_ ?_
  · show s.val / 512 / 4 = s.val / 2048
    omega
  · show 512 * (s.val / 512 % 4) + s.val % 512 = s.val % 2048
    omega

end Cert.Kernel2Ideal.Post

end
-- ==== Proof.PRef.lean ====
/- The second reference's result at an index. -/
module

public import proofs.«01_k».proof.Proof.PSpec
public import proofs.«01_k».proof.Proof.Gen.Reference2Ideal.Run
public import Idealize.ShloMosaic.Lib.StableHlo.RunRead
public import Idealize.ShloMosaic.Lib.Pipeline.ValueKit.Geometry
public import Idealize.ShloMosaic.Lib.Pointwise
public import Idealize.ShloMosaic.Lib.StableHlo.ReadAt

@[expose] public section

set_option maxRecDepth 16384

noncomputable section

open Idealize.ShloMosaic Idealize.ShloMosaic.Tactic Idealize.ShloMosaic.TcCoe

namespace Cert.Reference2Ideal.Post

open Cert.Reference2Ideal Cert.Reference2Ideal.Gen Cert.Reference2Ideal.Value Cert.Post

variable (m : (ℓ : Loc nD τ sig) → Buf (Elt Ideal) ℓ) (c : Dev nD)

/-- The reference's arguments as the inputs. -/
def inp : Inp where
  x b t n := m ((c : Thread nD τ).loc main_arg0) (ix3 b t n)
  r b t k := m ((c : Thread nD τ).loc main_arg1) (ix3 b t k)
  a b t k := m ((c : Thread nD τ).loc main_arg2) (ix3 b t k)
  g b n := m ((c : Thread nD τ).loc main_arg3) (ix3 b 0 n)
  w k n := m ((c : Thread nD τ).loc main_arg7) (ix3 0 k n)

/-- Both branches in one row, the second's lanes in the order of the heads. -/
def row (r a : FVec Ideal S8x2048x512 .f32) : FVec Ideal S8x2048x1024 .f32 :=
  concatenate S8x2048x1024 2 [⟨S8x2048x512, r⟩, ⟨S8x2048x512, (shapeCast _ (transpose S8x2048x2x4x64 [0, 1, 3, 2, 4] (shapeCast _ a shapeCasts_S8x2048x512_S8x2048x4x2x64) transposes_S8x2048x4x2x64_S8x2048x2x4x64_0_1_3_2_4) shapeCasts_S8x2048x2x4x64_S8x2048x512)⟩] concatenates_S8x2048x512_S8x2048x512_S8x2048x1024_d2

/-- Its first half. -/
theorem row_r (r a : FVec Ideal S8x2048x512 .f32) (b : Fin 8) (t : Fin 2048) (k : Fin 512) :
    @Eq EReal (row r a (ix3 b t (⟨k.val, by omega⟩ : Fin 1024))) (r (ix3 b t k)) := by
  pointwise [row]

/-- Its second half. -/
theorem row_a (r a : FVec Ideal S8x2048x512 .f32) (b : Fin 8) (t : Fin 2048) (e : Fin 512) :
    @Eq EReal (row r a (ix3 b t (⟨512 + e.val, by omega⟩ : Fin 1024))) (a (ix3 b t (toPair e))) := by
  pointwise [row, toPair]

/-- The result of the arguments. -/
def res (x : FVec Ideal S8x2048x1024 .f32) (g : FVec Ideal S8x1x1024 .f32) (q : FVec Ideal S8x2048x1024 .f32) (w : FVec Ideal S1x1024x1024 .f32) :
    FVec Ideal S16384x1024 .f32 :=
  shapeCast _ (addf x (mulf (broadcastInDim S8x2048x1024 ![0, 1, 2] bcast_S8x1x1024_S8x2048x1024_0_1_2 g) (Host.dotGeneral dot_S8x2048x1024_S1024x1024_S8x2048x1024_2_0_01_1_n_n none q (shapeCast _ w shapeCasts_S1x1024x1024_S1024x1024)))) shapeCasts_S8x2048x1024_S16384x1024

/-- The result at an index. -/
theorem res_apply (x : FVec Ideal S8x2048x1024 .f32) (g : FVec Ideal S8x1x1024 .f32) (q : FVec Ideal S8x2048x1024 .f32) (w : FVec Ideal S1x1024x1024 .f32)
    (s : Fin 16384) (n : Fin 1024) :
    @Eq EReal (res x g q w (ix2 s n))
      (x (ix3 (⟨s.val / 2048, by omega⟩ : Fin 8) (⟨s.val % 2048, by omega⟩ : Fin 2048) n) + g (ix3 (⟨s.val / 2048, by omega⟩ : Fin 8) 0 n)
        * ∑ k : Fin 1024, q (ix3 (⟨s.val / 2048, by omega⟩ : Fin 8) (⟨s.val % 2048, by omega⟩ : Fin 2048) k) * w (ix3 0 k n)) := by
  pointwise [res]

/-- The reference's result is the formula of its arguments. -/
theorem res_eq (s : Fin 16384) (n : Fin 1024) :
    @Eq EReal (res (m ((c : Thread nD τ).loc main_arg0)) (m ((c : Thread nD τ).loc main_arg3))
        (row (m ((c : Thread nD τ).loc main_arg1)) (m ((c : Thread nD τ).loc main_arg2))) (m ((c : Thread nD τ).loc main_arg7)) (ix2 s n))
      (mix (inp m c) ⟨s.val / 2048, by omega⟩ ⟨s.val % 2048, by omega⟩ n) :=
  (res_apply _ _ _ _ s n).trans
    (mix_eq (inp m c) _ _ n _ (fun k => row_r _ _ _ _ k) (fun e => row_a _ _ _ _ e))

end Cert.Reference2Ideal.Post

end
-- ==== Proof.ESpec.lean ====
/- What the third call computes: every block of rows through its expert's three products. -/
module

public import Idealize.ShloMosaic.PureOps.Ideal
public import Idealize.ShloMosaic.PureOps.Ideal.Laws
public import Idealize.ShloMosaic.Lib.ValueIdxCore
public import Mathlib.Algebra.BigOperators.Fin

@[expose] public section

noncomputable section

open Idealize.ShloMosaic

namespace Cert.Experts

/-- The inputs: every block's count of rows, the words of its rows, and its expert's weights. -/
structure Inp where
  nv : Fin 460 → BitVec 32
  w : Fin 460 → Fin 256 → Fin 512 → BitVec 32
  g : Fin 460 → Fin 1024 → Fin 256 → EReal
  u : Fin 460 → Fin 1024 → Fin 256 → EReal
  d : Fin 460 → Fin 256 → Fin 1024 → EReal

/-- The number in a word's lower half. -/
def lower (w : BitVec 32) : EReal := Ideal.ofBits .f32 (IntOp.shli .host w 16#32)
/-- The number in a word's upper half. -/
def upper (w : BitVec 32) : EReal := Ideal.ofBits .f32 (IntOp.andi w 4294901760#32)

/-- A value of row `i` of a block with `nv` rows, zero past them. -/
def masked (nv : BitVec 32) (i : Fin 256) (x : EReal) : EReal :=
  Scalar.select (IntOp.cmpi .slt (BitVec.ofNat 32 i.val) nv) x 0

/-- A block's row times its expert's weights, the two halves of the row apart. -/
def prod (p : Inp) (g : Fin 460 → Fin 1024 → Fin 256 → EReal) (b : Fin 460) (i e : Fin 256) : EReal :=
  ∑ k : Fin 512, masked (p.nv b) i (lower (p.w b i k)) * g b ⟨k.val, by omega⟩ e
    + ∑ k : Fin 512, masked (p.nv b) i (upper (p.w b i k)) * g b ⟨512 + k.val, by omega⟩ e

/-- The gated activation. -/
def act (a b : EReal) : EReal := a * Ideal.div 1 (1 + Ideal.exp (-a)) * b

/-- The block's row of the result. -/
def out (p : Inp) (b : Fin 460) (i : Fin 256) (n : Fin 1024) : EReal :=
  ∑ e : Fin 256, act (prod p p.g b i e) (prod p p.u b i e) * p.d b e n

/-- The same product with the row in one piece. -/
theorem prod_eq (p : Inp) (g : Fin 460 → Fin 1024 → Fin 256 → EReal) (b : Fin 460) (i e : Fin 256) (f : Fin 1024 → EReal)
    (hl : ∀ k : Fin 512, f ⟨k.val, by omega⟩ = masked (p.nv b) i (lower (p.w b i k)))
    (hu : ∀ k : Fin 512, f ⟨512 + k.val, by omega⟩ = masked (p.nv b) i (upper (p.w b i k))) :
    ∑ k, f k * g b k e = prod p g b i e := by
  have h : ∑ k, f k * g b k e = ∑ k : Fin 512, f ⟨k.val, by omega⟩ * g b ⟨k.val, by omega⟩ e + ∑ k : Fin 512, f ⟨512 + k.val, by omega⟩ * g b ⟨512 + k.val, by omega⟩ e :=
    Fin.sum_univ_add (a := 512) (b := 512) fun k => f k * g b k e
  unfold prod
  rw [h]
  simp only [hl, hu]

/-- A word of zeros holds two zeros: the lower half. -/
theorem lower_zero : lower 0#32 = 0 := by
  unfold lower
  rw [show IntOp.shli .host (0#32) 16#32 = 0#32 from by decide]
  exact Ideal.ofBits_zero_f32

/-- A word of zeros holds two zeros: the upper half. -/
theorem upper_zero : upper 0#32 = 0 := by
  unfold upper
  rw [show IntOp.andi (0#32) 4294901760#32 = 0#32 from by decide]
  exact Ideal.ofBits_zero_f32

/-- Masking the word masks the number in its lower half. -/
theorem lower_masked (c : BitVec 1) (w : BitVec 32) :
    Ideal.ofBits .f32 (IntOp.shli .vector (Scalar.select c w 0#32) 16#32) = Scalar.select c (lower w) 0 := by
  unfold Scalar.select
  split
  · rfl
  · exact lower_zero

/-- Masking the word masks the number in its upper half. -/
theorem upper_masked (c : BitVec 1) (w : BitVec 32) :
    Ideal.ofBits .f32 (IntOp.andi (Scalar.select c w 0#32) 4294901760#32) = Scalar.select c (upper w) 0 := by
  unfold Scalar.select
  split
  · rfl
  · exact upper_zero

/-- The expert a word names. -/
def expert (w : BitVec 32) : Fin 64 := ⟨min w.toNat 63, by omega⟩

/-- The arguments as the inputs. -/
def inp (be nv : (⟨1, ![460]⟩ : Shape).Idx → BitVec 32) (w : (⟨2, ![117760, 512]⟩ : Shape).Idx → BitVec 32)
    (g u : (⟨4, ![1, 64, 1024, 256]⟩ : Shape).Idx → EReal) (d : (⟨4, ![1, 64, 256, 1024]⟩ : Shape).Idx → EReal) : Inp where
  nv b := nv (ValueIdx.ix1 b)
  w b i k := w (ValueIdx.ix2 (⟨256 * b.val + i.val, by omega⟩ : Fin 117760) k)
  g b k e := g (ValueIdx.ix4 0 (expert (be (ValueIdx.ix1 b))) k e)
  u b k e := u (ValueIdx.ix4 0 (expert (be (ValueIdx.ix1 b))) k e)
  d b e n := d (ValueIdx.ix4 0 (expert (be (ValueIdx.ix1 b))) e n)

/-- A word between 0 and 63, read signed, is below 64 read unsigned. -/
theorem word_lt (w : BitVec 32) (h : IntOp.andi (IntOp.cmpi .sge w 0#32) (IntOp.cmpi .slt w 64#32) = 1#1) : w.toNat < 64 := by
  have and_one (a b : BitVec 1) : IntOp.andi a b = 1#1 ↔ a = 1#1 ∧ b = 1#1 := by revert a b; decide
  have ofBool_eq_one (p : Bool) : (BitVec.ofBool p = 1#1) ↔ p = true := by cases p <;> decide
  rw [and_one] at h
  simp only [ofBool_eq_one, IntOp.cmpi, BitVec.sle, BitVec.slt, decide_eq_true_eq, BitVec.toInt, BitVec.toNat_ofNat] at h
  have := w.isLt
  simp at h
  omega

/-- Such a word read signed and clamped names the same expert. -/
theorem clamp_eq (w : BitVec 32) (h : w.toNat < 64) : min w.toInt.toNat 63 = w.toNat := by
  rw [BitVec.toInt_eq_toNat_of_lt (by omega)]
  simp
  omega

end Cert.Experts

end
-- ==== Proof.EOk.lean ====
/- The third call's blocks lie inside their arrays where every block names an expert (the machine numbers' program). -/
module

public import proofs.«01_k».proof.Defs
public import proofs.«01_k».proof.Proof.ESpec
public import proofs.«01_k».proof.Proof.Gen.Kernel3.Frame
public import proofs.«01_k».proof.Proof.Gen.Pre_experts_exist

@[expose] public section

set_option maxRecDepth 16384

noncomputable section

open Idealize.ShloMosaic Idealize.ShloMosaic.Tactic Idealize.ShloMosaic.TcCoe

namespace Cert.Kernel3.Experts

open Cert.Kernel3 Cert.Kernel3.Gen Cert.Experts

variable (m : (ℓ : Loc nD τ sig) → Buf (Elt Bits) ℓ)

/-- The table of the blocks' experts is the first argument. -/
theorem tbl0 : tbl m 0 = m (((0 : Dev nD) : Thread nD τ).loc main_arg0) := V_main_arg0 m 0

/-- Under the precondition its words are below 64. -/
theorem tbl0_lt (h : Cert.Pre_Kernel3 m) (x : S460.Idx) : ((tbl m 0 : S460.Idx → BitVec 32) x).toNat < 64 := by
  rw [tbl0]
  exact word_lt _ (congrFun (h 0) x)

/-- So every block of the gate weights lies inside its array. -/
theorem inb1 (pf : pre0.Contents (Elt Bits)) (h : ∀ x : S460.Idx, ((pf 0 : S460.Idx → BitVec 32) x).toNat < 64) (i : grid0.Coords) (a : Fin 3) :
    (cc0_transform_1 k0_off1_inb numel1_S1 pf i a + 1) * S1x1024x256.size a ≤ S64x1024x256.size a := by
  match a with
  | ⟨0, _⟩ =>
    have e : cc0_transform_1 k0_off1_inb numel1_S1 pf i 0 < 64 := h _
    show (cc0_transform_1 k0_off1_inb numel1_S1 pf i 0 + 1) * 1 ≤ 64
    omega
  | ⟨1, _⟩ => exact (by decide : (0 + 1) * 1024 ≤ 1024)
  | ⟨2, _⟩ => exact (by decide : (0 + 1) * 256 ≤ 256)

/-- So every block of the up weights lies inside its array. -/
theorem inb2 (pf : pre0.Contents (Elt Bits)) (h : ∀ x : S460.Idx, ((pf 0 : S460.Idx → BitVec 32) x).toNat < 64) (i : grid0.Coords) (a : Fin 3) :
    (cc0_transform_2 k0_off1_inb numel1_S1 pf i a + 1) * S1x1024x256.size a ≤ S64x1024x256.size a := by
  match a with
  | ⟨0, _⟩ =>
    have e : cc0_transform_2 k0_off1_inb numel1_S1 pf i 0 < 64 := h _
    show (cc0_transform_2 k0_off1_inb numel1_S1 pf i 0 + 1) * 1 ≤ 64
    omega
  | ⟨1, _⟩ => exact (by decide : (0 + 1) * 1024 ≤ 1024)
  | ⟨2, _⟩ => exact (by decide : (0 + 1) * 256 ≤ 256)

/-- So every block of the down weights lies inside its array. -/
theorem inb3 (pf : pre0.Contents (Elt Bits)) (h : ∀ x : S460.Idx, ((pf 0 : S460.Idx → BitVec 32) x).toNat < 64) (i : grid0.Coords) (a : Fin 3) :
    (cc0_transform_3 k0_off1_inb numel1_S1 pf i a + 1) * S1x256x1024.size a ≤ S64x256x1024.size a := by
  match a with
  | ⟨0, _⟩ =>
    have e : cc0_transform_3 k0_off1_inb numel1_S1 pf i 0 < 64 := h _
    show (cc0_transform_3 k0_off1_inb numel1_S1 pf i 0 + 1) * 1 ≤ 64
    omega
  | ⟨1, _⟩ => exact (by decide : (0 + 1) * 256 ≤ 256)
  | ⟨2, _⟩ => exact (by decide : (0 + 1) * 1024 ≤ 1024)

/-- The side condition of the blocks. -/
theorem ok_of_pre (h : Cert.Pre_Kernel3 m) : Ok m :=
  ⟨fun i => ⟨inb1 _ (tbl0_lt m h) i, Or.inl rfl⟩, fun i => ⟨inb2 _ (tbl0_lt m h) i, Or.inl rfl⟩, fun i => ⟨inb3 _ (tbl0_lt m h) i, Or.inl rfl⟩⟩

end Cert.Kernel3.Experts

end
-- ==== Proof.EOkIdeal.lean ====
/- The third call's blocks lie inside their arrays where every block names an expert (the real numbers' program). -/
module

public import proofs.«01_k».proof.Defs
public import proofs.«01_k».proof.Proof.ESpec
public import proofs.«01_k».proof.Proof.Gen.Kernel3Ideal.Frame
public import proofs.«01_k».proof.Proof.Gen.Pre_experts_exist

@[expose] public section

set_option maxRecDepth 16384

noncomputable section

open Idealize.ShloMosaic Idealize.ShloMosaic.Tactic Idealize.ShloMosaic.TcCoe

namespace Cert.Kernel3Ideal.Experts

open Cert.Kernel3Ideal Cert.Kernel3Ideal.Gen Cert.Experts

variable (m : (ℓ : Loc nD τ sig) → Buf (Elt Ideal) ℓ)

/-- The table of the blocks' experts is the first argument. -/
theorem tbl0 : tbl m 0 = m (((0 : Dev nD) : Thread nD τ).loc main_arg0) := V_main_arg0 m 0

/-- Under the precondition its words are below 64. -/
theorem tbl0_lt (h : Cert.Pre_Kernel3Ideal m) (x : S460.Idx) : ((tbl m 0 : S460.Idx → BitVec 32) x).toNat < 64 := by
  rw [tbl0]
  exact word_lt _ (congrFun (h 0) x)

/-- So every block of the gate weights lies inside its array. -/
theorem inb1 (pf : pre0.Contents (Elt Ideal)) (h : ∀ x : S460.Idx, ((pf 0 : S460.Idx → BitVec 32) x).toNat < 64) (i : grid0.Coords) (a : Fin 3) :
    (cc0_transform_1 k0_off1_inb numel1_S1 pf i a + 1) * S1x1024x256.size a ≤ S64x1024x256.size a := by
  match a with
  | ⟨0, _⟩ =>
    have e : cc0_transform_1 k0_off1_inb numel1_S1 pf i 0 < 64 := h _
    show (cc0_transform_1 k0_off1_inb numel1_S1 pf i 0 + 1) * 1 ≤ 64
    omega
  | ⟨1, _⟩ => exact (by decide : (0 + 1) * 1024 ≤ 1024)
  | ⟨2, _⟩ => exact (by decide : (0 + 1) * 256 ≤ 256)

/-- So every block of the up weights lies inside its array. -/
theorem inb2 (pf : pre0.Contents (Elt Ideal)) (h : ∀ x : S460.Idx, ((pf 0 : S460.Idx → BitVec 32) x).toNat < 64) (i : grid0.Coords) (a : Fin 3) :
    (cc0_transform_2 k0_off1_inb numel1_S1 pf i a + 1) * S1x1024x256.size a ≤ S64x1024x256.size a := by
  match a with
  | ⟨0, _⟩ =>
    have e : cc0_transform_2 k0_off1_inb numel1_S1 pf i 0 < 64 := h _
    show (cc0_transform_2 k0_off1_inb numel1_S1 pf i 0 + 1) * 1 ≤ 64
    omega
  | ⟨1, _⟩ => exact (by decide : (0 + 1) * 1024 ≤ 1024)
  | ⟨2, _⟩ => exact (by decide : (0 + 1) * 256 ≤ 256)

/-- So every block of the down weights lies inside its array. -/
theorem inb3 (pf : pre0.Contents (Elt Ideal)) (h : ∀ x : S460.Idx, ((pf 0 : S460.Idx → BitVec 32) x).toNat < 64) (i : grid0.Coords) (a : Fin 3) :
    (cc0_transform_3 k0_off1_inb numel1_S1 pf i a + 1) * S1x256x1024.size a ≤ S64x256x1024.size a := by
  match a with
  | ⟨0, _⟩ =>
    have e : cc0_transform_3 k0_off1_inb numel1_S1 pf i 0 < 64 := h _
    show (cc0_transform_3 k0_off1_inb numel1_S1 pf i 0 + 1) * 1 ≤ 64
    omega
  | ⟨1, _⟩ => exact (by decide : (0 + 1) * 256 ≤ 256)
  | ⟨2, _⟩ => exact (by decide : (0 + 1) * 1024 ≤ 1024)

/-- The side condition of the blocks. -/
theorem ok_of_pre (h : Cert.Pre_Kernel3Ideal m) : Ok m :=
  ⟨fun i => ⟨inb1 _ (tbl0_lt m h) i, Or.inl rfl⟩, fun i => ⟨inb2 _ (tbl0_lt m h) i, Or.inl rfl⟩, fun i => ⟨inb3 _ (tbl0_lt m h) i, Or.inl rfl⟩⟩

end Cert.Kernel3Ideal.Experts

end
-- ==== Proof.EPoint.lean ====
/- What the third call's body stores, at an index of its block. -/
module

public import proofs.«01_k».proof.Proof.ESpec
public import proofs.«01_k».proof.Proof.Gen.Kernel3Ideal.Frame
public import Idealize.ShloMosaic.Lib.StableHlo.RunRead
public import Idealize.ShloMosaic.Lib.Pipeline.ValueKit.Geometry
public import Idealize.ShloMosaic.Lib.Pointwise
public import Idealize.ShloMosaic.Lib.StableHlo.ReadAt

@[expose] public section

set_option maxRecDepth 16384

noncomputable section

open Idealize.ShloMosaic Idealize.ShloMosaic.Tactic Idealize.ShloMosaic.TcCoe

namespace Cert.Kernel3Ideal.Experts

open Cert.Kernel3Ideal Cert.Kernel3Ideal.Gen Cert.Experts

/-- The last product at an index. -/
theorem pay1_apply (v : FVec Ideal S256x256 .f32) (d : FVec Ideal S1x256x1024 .f32) (i : Fin 256) (n : Fin 1024) :
    @Eq EReal (k0_pay1 (F := Ideal) v d (ix2 i n)) (∑ e : Fin 256, v (ix2 i e) * d (ix3 0 e n)) := by
  pointwise [k0_pay1]

/-- A block's row times weights, from the block as it was read. -/
def bprod (nv : BitVec 32) (w : IVec S256x512 32) (g : FVec Ideal S1x1024x256 .f32) (i e : Fin 256) : EReal :=
  ∑ k : Fin 512, masked nv i (lower (w (ix2 i k))) * g (ix3 0 (⟨k.val, by omega⟩ : Fin 1024) e)
    + ∑ k : Fin 512, masked nv i (upper (w (ix2 i k))) * g (ix3 0 (⟨512 + k.val, by omega⟩ : Fin 1024) e)

/-- The same with the words masked in place of the numbers. -/
theorem bprod_eq (nv : BitVec 32) (w : IVec S256x512 32) (g : FVec Ideal S1x1024x256 .f32) (i e : Fin 256) :
    @Eq EReal (∑ k : Fin 512, Ideal.ofBits .f32 (IntOp.shli .vector (Scalar.select (IntOp.cmpi .slt (BitVec.ofNat 32 i.val) nv) (w (ix2 i k)) 0#32) 16#32) * g (ix3 0 (⟨k.val, by omega⟩ : Fin 1024) e)
      + ∑ k : Fin 512, Ideal.ofBits .f32 (IntOp.andi (Scalar.select (IntOp.cmpi .slt (BitVec.ofNat 32 i.val) nv) (w (ix2 i k)) 0#32) 4294901760#32) * g (ix3 0 (⟨512 + k.val, by omega⟩ : Fin 1024) e))
      (bprod nv w g i e) := by
  unfold bprod
  refine congrArg₂ (fun a b : EReal => a + b) ?_ ?_
  · exact Finset.sum_congr rfl fun k _ => congrArg₂ (fun a b : EReal => a * b) (lower_masked _ _) rfl
  · exact Finset.sum_congr rfl fun k _ => congrArg₂ (fun a b : EReal => a * b) (upper_masked _ _) rfl

/-- The gated activation at an index. -/
theorem pay2_apply (nv : BitVec 32) (w : IVec S256x512 32) (g u : FVec Ideal S1x1024x256 .f32) (i : Fin 256) (e : Fin 256) :
    @Eq EReal (k0_pay2 (F := Ideal) nv w g u (ix2 i e)) (act (bprod nv w g i e) (bprod nv w u i e)) := by
  pointwise [k0_pay2]
  simp only [zero_sub]
  rw [← bprod_eq nv w g i e, ← bprod_eq nv w u i e]
  rfl

variable (m : (ℓ : Loc nD τ sig) → Buf (Elt Ideal) ℓ) (c : Dev nD)

/-- Two offsets of zero. -/
theorem hz2 : (![0, 0] : Fin 2 → Nat) = fun _ => 0 := funext fun a => by fin_cases a <;> rfl
/-- Three offsets of zero. -/
theorem hz3 : (![0, 0, 0] : Fin 3 → Nat) = fun _ => 0 := funext fun a => by fin_cases a <;> rfl

/-- A load of the whole buffer holding `X` is `X`. -/
theorem whole_read {sp : Space} {S : Shape} {e : EltTy} (mm : Memref sig .tc sp S e) (h : mm.IsWhole) (X : S.Idx → Elt Ideal e)
    {off : Fin S.rank → Nat} (hz : off = fun _ => 0) (inb : ∀ a, off a + S.size a ≤ S.size a) :
    mm.view.readAt (Elt Ideal) (Rect.unit off S.size inb).toLoadRect (h.unread X) = X := by
  rw [View.readAt_eq_ld, h.read_unread, View.ld_unit_zero hz]

/-- A point's coordinate is its number. -/
theorem coords_val : ∀ t : Fin grid0.N, (grid0.coords t 0).val = t.val := by decide +kernel

set_option maxHeartbeats 1000000 in
/-- Every point stores the last product of the gated activation, of the blocks read there. -/
theorem point (hO : Ok m) (t : Fin (cfgM m hO).N) :
    outsAt0 m hO c t = k0_pay1 (F := Ideal) (k0_pay2 (F := Ideal) (tbl m 1 (ix1 ⟨t.val, lt_of_lt_of_eq t.isLt N_0⟩)) (iblk m hO c 0 t) (iblk m hO c 1 t) (iblk m hO c 2 t)) (iblk m hO c 3 t) := by
    unfold outsAt0
    unfold out0_A_4
    refine (View.read_writes_eq_canon _ _ _ (by intro y; exact cover0_A_4 ..)).trans ?_
    unfold kernelRun0_A
    dsimp only
    rw [View.canon_unit_zero hz2]
    sl_unfold_words
    rw [whole_read (ms0_0 m hO t) (hs0_0 m hO t) (iblk m hO c 0 t) hz2,
      whole_read (ms0_1 m hO t) (hs0_1 m hO t) (iblk m hO c 1 t) hz3,
      whole_read (ms0_2 m hO t) (hs0_2 m hO t) (iblk m hO c 2 t) hz3,
      whole_read (ms0_3 m hO t) (hs0_3 m hO t) (iblk m hO c 3 t) hz3]
    refine congrArg (fun q => k0_pay1 (F := Ideal) (k0_pay2 (F := Ideal) q (iblk m hO c 0 t) (iblk m hO c 1 t) (iblk m hO c 2 t)) (iblk m hO c 3 t)) ?_
    show (tbl m 1 : S460.Idx → BitVec 32) _ = (tbl m 1 : S460.Idx → BitVec 32) _
    refine congrArg (tbl m 1 : S460.Idx → BitVec 32) (funext fun a => Fin.ext ?_)
    match a with
    | ⟨0, _⟩ =>
      show k0_off1 (grid0.coords t) 0 + 1 * 0 = t.val
      rw [k0_off1_eq]
      exact coords_val t

end Cert.Kernel3Ideal.Experts

end
-- ==== Proof.EValue.lean ====
/- The third call's array is the formula of its arguments. -/
module

public import proofs.«01_k».proof.Proof.EPoint
public import proofs.«01_k».proof.Proof.EOkIdeal

@[expose] public section

set_option maxRecDepth 16384

noncomputable section

open Idealize.ShloMosaic Idealize.ShloMosaic.Tactic Idealize.ShloMosaic.TcCoe

namespace Cert.Kernel3Ideal.Experts

open Cert.Kernel3Ideal Cert.Kernel3Ideal.Gen Cert.Experts

variable (m : (ℓ : Loc nD τ sig) → Buf (Elt Ideal) ℓ) (ρ : Dev nD → PrngReg) (hO : Ok m) (c : Dev nD)

/-- The kernel's arguments as the inputs. -/
def kinp : Inp := inp (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-! ## The arrays the host hands to the kernel -/

/-- The gate weights without their unit axis. -/
theorem host_g (q : Fin 64) (k : Fin 1024) (e : Fin 256) :
    @Eq EReal (V m c main_v0 (ix3 q k e)) (m ((c : Thread nD τ).loc main_arg3) (ix4 0 q k e)) := by
  entry_read
  pointwise

/-- The up weights likewise. -/
theorem host_u (q : Fin 64) (k : Fin 1024) (e : Fin 256) :
    @Eq EReal (V m c main_v1 (ix3 q k e)) (m ((c : Thread nD τ).loc main_arg4) (ix4 0 q k e)) := by
  entry_read
  pointwise

/-- The down weights likewise. -/
theorem host_d (q : Fin 64) (e : Fin 256) (n : Fin 1024) :
    @Eq EReal (V m c main_v2 (ix3 q e n)) (m ((c : Thread nD τ).loc main_arg5) (ix4 0 q e n)) := by
  entry_read
  pointwise

/-! ## The blocks a grid point reads of them -/

/-- There are 460 points. -/
theorem pt_lt (t : Fin (cfgM m hO).N) : t.val < 460 := lt_of_lt_of_eq t.isLt N_0

/-- A point's block of the rows. -/
abbrev bOf (t : Fin (cfgM m hO).N) : Fin 460 := ⟨t.val, pt_lt m hO t⟩

/-- The word of a point's expert. -/
abbrev word (t : Fin (cfgM m hO).N) : BitVec 32 := (tbl m 0 : S460.Idx → BitVec 32) (ix1 (bOf m hO t))

/-- Where the words' block lies. -/
theorem idx0 (t : Fin (cfgM m hO).N) : ((cfgM m hO).win 0).index t = ![t.val, 0] :=
  (by decide +kernel : ∀ t : Fin grid0.N, cc0_transform_0 (grid0.coords t) = ![t.val, 0]) t

/-- Where the result's block lies. -/
theorem idx4 (t : Fin (cfgM m hO).N) : ((cfgM m hO).win 4).index t = ![t.val, 0] :=
  (by decide +kernel : ∀ t : Fin grid0.N, cc0_transform_4 (grid0.coords t) = ![t.val, 0]) t

/-- The place of the table a point's index map reads. -/
theorem at_word (t : Fin grid0.N) (x : S460.Idx) (hx : (x 0).val = k0_off1 (grid0.coords t) 0 + 1 * 0) (y : Fin 460) (hy : y.val = t.val) : x = ix1 y := by
  funext a
  match a with
  | ⟨0, _⟩ =>
    refine Fin.ext (hx.trans ?_)
    rw [k0_off1_eq]
    exact (coords_val t).trans hy.symm

/-- Where the gate weights' block lies. -/
theorem idx1 (t : Fin (cfgM m hO).N) : ((cfgM m hO).win 1).index t = ![(word m hO t).toNat, 0, 0] := by
  show ![BitVec.toNat ((tbl m 0 : S460.Idx → BitVec 32) _), 0, 0] = _
  exact congrArg (fun x => ![BitVec.toNat ((tbl m 0 : S460.Idx → BitVec 32) x), 0, 0]) (at_word t _ rfl (bOf m hO t) rfl)
/-- The same of the up weights. -/
theorem idx2 (t : Fin (cfgM m hO).N) : ((cfgM m hO).win 2).index t = ![(word m hO t).toNat, 0, 0] := idx1 m hO t
/-- The same of the down weights. -/
theorem idx3 (t : Fin (cfgM m hO).N) : ((cfgM m hO).win 3).index t = ![(word m hO t).toNat, 0, 0] := idx1 m hO t

variable (hlt : ∀ x : S460.Idx, ((tbl m 0 : S460.Idx → BitVec 32) x).toNat < 64)

/-- The words' block. -/
theorem blk_w (t : Fin (cfgM m hO).N) (i : Fin 256) (k : Fin 512) :
    @Eq (BitVec 32) (iblk m hO c 0 t (ix2 i k)) (V m c main_arg2 (ix2 (⟨256 * t.val + i.val, by have := pt_lt m hO t; omega⟩ : Fin 117760) k)) := by
  have := pt_lt m hO t
  have e := idx0 m hO t
  blk_ext [iblk, e]

include hlt in
/-- The gate weights' block. -/
theorem blk_g (t : Fin (cfgM m hO).N) (k : Fin 1024) (e : Fin 256) :
    @Eq EReal (iblk m hO c 1 t (ix3 0 k e)) (V m c main_v0 (ix3 (expert (word m hO t)) k e)) := by
  have hw : (word m hO t).toNat < 64 := hlt (ix1 (bOf m hO t))
  have e := idx1 m hO t
  blk_ext [iblk, e, expert]

include hlt in
/-- The up weights' block. -/
theorem blk_u (t : Fin (cfgM m hO).N) (k : Fin 1024) (e : Fin 256) :
    @Eq EReal (iblk m hO c 2 t (ix3 0 k e)) (V m c main_v1 (ix3 (expert (word m hO t)) k e)) := by
  have hw : (word m hO t).toNat < 64 := hlt (ix1 (bOf m hO t))
  have e := idx2 m hO t
  blk_ext [iblk, e, expert]

include hlt in
/-- The down weights' block. -/
theorem blk_d (t : Fin (cfgM m hO).N) (e : Fin 256) (n : Fin 1024) :
    @Eq EReal (iblk m hO c 3 t (ix3 0 e n)) (V m c main_v2 (ix3 (expert (word m hO t)) e n)) := by
  have hw : (word m hO t).toNat < 64 := hlt (ix1 (bOf m hO t))
  have e := idx3 m hO t
  blk_ext [iblk, e, expert]

/-! ## What a point stores -/

/-- The table's word is the first argument's. -/
theorem word_eq (t : Fin (cfgM m hO).N) : word m hO t = (m ((c : Thread nD τ).loc main_arg0) : S460.Idx → BitVec 32) (ix1 (bOf m hO t)) := by
  obtain rfl : c = 0 := Subsingleton.elim _ _
  exact congrFun (tbl0 m) _

/-- The count of a point's rows is the second argument's. -/
theorem count_eq (t : Fin (cfgM m hO).N) :
    (tbl m 1 : S460.Idx → BitVec 32) (ix1 (bOf m hO t)) = (m ((c : Thread nD τ).loc main_arg1) : S460.Idx → BitVec 32) (ix1 (bOf m hO t)) := by
  obtain rfl : c = 0 := Subsingleton.elim _ _
  exact congrFun (V_main_arg1 m 0) _

/-- A block's row times weights is the inputs'. -/
theorem bprod_inp (t : Fin (cfgM m hO).N) (B : FVec Ideal S1x1024x256 .f32) (g : Fin 460 → Fin 1024 → Fin 256 → EReal)
    (hB : ∀ k e, @Eq EReal (B (ix3 0 k e)) (g (bOf m hO t) k e)) (i e : Fin 256) :
    bprod ((tbl m 1 : S460.Idx → BitVec 32) (ix1 (bOf m hO t))) (iblk m hO c 0 t) B i e = prod (kinp m c) g (bOf m hO t) i e := by
  have hw : ∀ k, @Eq (BitVec 32) (iblk m hO c 0 t (ix2 i k)) ((kinp m c).w (bOf m hO t) i k) := fun k =>
    (blk_w m hO c t i k).trans (congrFun (V_main_arg2 m c) _)
  have hn : (tbl m 1 : S460.Idx → BitVec 32) (ix1 (bOf m hO t)) = (kinp m c).nv (bOf m hO t) := count_eq m hO c t
  unfold bprod prod
  rw [hn]
  refine congrArg₂ (fun a b : EReal => a + b) ?_ ?_
  · exact Finset.sum_congr rfl fun k _ => congrArg₂ (fun a b : EReal => a * b) (congrArg (fun v => masked _ i (lower v)) (hw k)) (hB _ _)
  · exact Finset.sum_congr rfl fun k _ => congrArg₂ (fun a b : EReal => a * b) (congrArg (fun v => masked _ i (upper v)) (hw k)) (hB _ _)

include hlt in
/-- A point's block of the result. -/
theorem at_out (t : Fin (cfgM m hO).N) (i : Fin 256) (n : Fin 1024) :
    @Eq EReal (outsAt0 m hO c t (ix2 i n)) (out (kinp m c) (bOf m hO t) i n) := by
  rw [point m c hO t]
  refine (pay1_apply _ _ i n).trans ?_
  unfold out
  refine Finset.sum_congr rfl fun e _ => ?_
  refine congrArg₂ (fun a b : EReal => a * b) ?_ ?_
  · refine (pay2_apply _ _ _ _ i e).trans (congrArg₂ act ?_ ?_)
    · refine bprod_inp m hO c t _ (kinp m c).g (fun k e => ?_) i e
      refine ((blk_g m hO c hlt t k e).trans (host_g m c _ k e)).trans ?_
      rw [word_eq m hO c t]
      rfl
    · refine bprod_inp m hO c t _ (kinp m c).u (fun k e => ?_) i e
      refine ((blk_u m hO c hlt t k e).trans (host_u m c _ k e)).trans ?_
      rw [word_eq m hO c t]
      rfl
  · refine ((blk_d m hO c hlt t e n).trans (host_d m c _ e n)).trans ?_
    rw [word_eq m hO c t]
    rfl

/-! ## The array -/

/-- The result's array. -/
def G : S117760x1024.Idx → EReal := fun x =>
  out (kinp m c) ⟨(x 0).val / 256, by have : (x 0).val < 117760 := (x 0).isLt; omega⟩ ⟨(x 0).val % 256, Nat.mod_lt _ (by decide)⟩ (x 1)

include hlt in
/-- What a point writes back is its block of that array. -/
theorem flushed_eq (t : Fin (cfgM m hO).N) :
    (dats m hO 0 c).flushed 4 t = (((cfgM m hO).win 4).blk t).view.read (Elt Ideal) (G m c) := by
  show ((cfgM m hO).win 4).cut (grid0.coords t) ((dats m hO 0 c).after 4 t) = _
  rw [after0_4]
  have hi := idx4 m hO t
  have ht := pt_lt m hO t
  refine funext fun (y : S256x1024.Idx) => ?_
  have hy0 : (y 0).val < 256 := (y 0).isLt
  have hy1 : (y 1).val < 1024 := (y 1).isLt
  have i0 : ((cfgM m hO).win 4).index t (0 : Fin 2) = t.val := congrFun hi (0 : Fin 2)
  have i1 : ((cfgM m hO).win 4).index t (1 : Fin 2) = 0 := congrFun hi (1 : Fin 2)
  obtain ⟨z, hz⟩ : ∃ z : S117760x1024.Idx, z = (((cfgM m hO).win 4).blk t).view.emb y := ⟨_, rfl⟩
  have hb0 : (z 0).val = ((cfgM m hO).win 4).index t (0 : Fin 2) * 256 + 1 * (y 0).val := by rw [hz]; rfl
  have hb1 : (z 1).val = ((cfgM m hO).win 4).index t (1 : Fin 2) * 1024 + 1 * (y 1).val := by rw [hz]; rfl
  rw [i0] at hb0
  rw [i1] at hb1
  have hx : (((cfgM m hO).win 4).xinj (grid0.coords t) y : S256x1024.Idx) = ix2 (⟨(y 0).val, hy0⟩ : Fin 256) (⟨(y 1).val, hy1⟩ : Fin 1024) := by
    funext a; apply Fin.ext
    match a with
    | ⟨0, _⟩ => rfl
    | ⟨1, _⟩ => rfl
  refine (congrArg (outsAt0 m hO c t) hx).trans ?_
  refine (at_out m hO c hlt t _ _).trans ?_
  refine Eq.trans ?_ (congrArg (G m c) hz)
  unfold G
  congr 1
  · exact Fin.ext (by show t.val = _ / 256; rw [hb0]; omega)
  · exact Fin.ext (by show (y 0).val = _ % 256; rw [hb0]; omega)
  · exact Fin.ext (by show (y 1).val = _; rw [hb1]; omega)

/-- An index of the array is in a point's block where its row is. -/
theorem mem_blk (t : Fin (cfgM m hO).N) (x : S117760x1024.Idx) :
    x ∈ (((cfgM m hO).win 4).blk t).view.set ↔ ∀ a : Fin 2, ((cfgM m hO).win 4).index t a * S256x1024.size a ≤ (x a).val ∧ (x a).val < ((cfgM m hO).win 4).index t a * S256x1024.size a + S256x1024.size a := by
  exact (iff_of_eq (congrArg (fun q : Finset S117760x1024.Idx => x ∈ q) (View.set_slice_whole main_v3 (((cfgM m hO).win 4).rect t)))).trans Rect.mem_set_unit

/-- Every index is in some point's block. -/
theorem covered (x : S117760x1024.Idx) : ∃ t : Fin (cfgM m hO).N, ((cfgM m hO).win 4).flush t = true ∧ x ∈ (((cfgM m hO).win 4).blk t).view.set := by
  have h0 : (x 0).val < 117760 := (x 0).isLt
  have h1 : (x 1).val < 1024 := (x 1).isLt
  have hN : (cfgM m hO).N = 460 := N_0
  refine ⟨⟨(x 0).val / 256, by omega⟩, flush0_4 _ _, ?_⟩
  rw [mem_blk]
  have hi := idx4 m hO ⟨(x 0).val / 256, by omega⟩
  intro a
  rw [hi]
  match a with
  | ⟨0, _⟩ => show (x 0).val / 256 * 256 ≤ (x 0).val ∧ (x 0).val < (x 0).val / 256 * 256 + 256; omega
  | ⟨1, _⟩ => show 0 * 1024 ≤ (x 1).val ∧ (x 1).val < 0 * 1024 + 1024; omega

include hlt in
/-- The array after the run. -/
theorem final : (dats m hO 0 c).arrAt 4 (cfgM m hO).N = G m c :=
  (dats m hO 0 c).arrAt_eq_of_cover 4 _ (fun t _ => flushed_eq m hO c hlt t) (covered m hO)

include hO hlt in
/-- The kernel ends with that array and its arguments as they were. -/
theorem run : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (final m hO c hlt),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

end Cert.Kernel3Ideal.Experts

end
-- ==== Proof.ERef.lean ====
/- The third reference's result at an index. -/
module

public import proofs.«01_k».proof.Proof.ESpec
public import proofs.«01_k».proof.Proof.Gen.Reference3Ideal.Run
public import Idealize.ShloMosaic.Lib.StableHlo.RunRead
public import Idealize.ShloMosaic.Lib.Pipeline.ValueKit.Geometry
public import Idealize.ShloMosaic.Lib.Pointwise
public import Idealize.ShloMosaic.Lib.StableHlo.ReadAt

@[expose] public section

set_option maxRecDepth 16384

noncomputable section

open Idealize.ShloMosaic Idealize.ShloMosaic.Tactic Idealize.ShloMosaic.TcCoe

namespace Cert.Reference3Ideal.Experts

open Cert.Reference3Ideal Cert.Reference3Ideal.Gen Cert.Reference3Ideal.Value Cert.Experts

/-- The words' two halves, decoded, in one row. -/
def dec (w : IVec S117760x512 32) : FVec Ideal S117760x1024 .f32 :=
  concatenate S117760x1024 1 [⟨S117760x512, (bitcastToFloat (F := Ideal) .f32 (Host.shli w (broadcastInDim S117760x512 ![] bcast_S_S117760x512 (constantI S_ 32 16#32))))⟩, ⟨S117760x512, (bitcastToFloat (F := Ideal) .f32 (andi w (broadcastInDim S117760x512 ![] bcast_S_S117760x512 (constantI S_ 32 4294901760#32))))⟩] concatenates_S117760x512_S117760x512_S117760x1024_d1

/-- The rows of the blocks, those past the count zero. -/
def rows (nv : IVec S460 32) (x : FVec Ideal S117760x1024 .f32) : FVec Ideal S460x256x1024 .f32 :=
  select (broadcastInDim S460x256x1024 ![0, 1, 2] bcast_S460x256x1_S460x256x1024_0_1_2 (cmpi .slt (iotaInDim S460x256x1 32 1) (broadcastInDim S460x256x1 ![0, 1, 2] bcast_S460x1x1_S460x256x1_0_1_2 (broadcastInDim S460x1x1 ![0] bcast_S460_S460x1x1_0 nv)))) (shapeCast _ x shapeCasts_S117760x1024_S460x256x1024) (broadcastInDim S460x256x1024 ![] bcast_S_S460x256x1024 (id (constant S_ .f32 0x00000000#32)))

/-- Every block's expert's first weights. -/
def wts (be : IVec S460 32) (g : FVec Ideal S1x64x1024x256 .f32) : FVec Ideal S460x1024x256 .f32 :=
  Host.gather gather_S64x1024x256_S460x1_S460x1024x256_12_0_n_n_0_1_11024256 (shapeCast _ g shapeCasts_S1x64x1024x256_S64x1024x256) (broadcastInDim S460x1 ![0] bcast_S460_S460x1_0 be)

/-- Every block's expert's last weights. -/
def wtd (be : IVec S460 32) (g : FVec Ideal S1x64x256x1024 .f32) : FVec Ideal S460x256x1024 .f32 :=
  Host.gather gather_S64x256x1024_S460x1_S460x256x1024_12_0_n_n_0_1_12561024 (shapeCast _ g shapeCasts_S1x64x256x1024_S64x256x1024) (broadcastInDim S460x1 ![0] bcast_S460_S460x1_0 be)

/-- The rows times first weights. -/
def rprod (x : FVec Ideal S460x256x1024 .f32) (g : FVec Ideal S460x1024x256 .f32) : FVec Ideal S460x256x256 .f32 :=
  Host.dotGeneral dot_S460x256x1024_S460x1024x256_S460x256x256_2_1_1_2_0_0 none x g

/-- The gated product of the two. -/
def ract (a b : FVec Ideal S460x256x256 .f32) : FVec Ideal S460x256x256 .f32 :=
  mulf (mulf a (Host.divf (broadcastInDim S460x256x256 ![] bcast_S_S460x256x256 (constant S_ .f32 0x3F800000#32)) (addf (broadcastInDim S460x256x256 ![] bcast_S_S460x256x256 (constant S_ .f32 0x3F800000#32)) (Host.exp (Host.negf a))))) b

/-- The result of the activations. -/
def last (h : FVec Ideal S460x256x256 .f32) (d : FVec Ideal S460x256x1024 .f32) : FVec Ideal S117760x1024 .f32 :=
  shapeCast _ (Host.dotGeneral dot_S460x256x256_S460x256x1024_S460x256x1024_2_1_1_2_0_0 none h d) shapeCasts_S460x256x1024_S117760x1024

variable (m : (ℓ : Loc nD τ sig) → Buf (Elt Ideal) ℓ) (c : Dev nD)

/-- The reference's composed term, in these parts. -/
theorem res_parts : res_main_v27 (F := Ideal) m c = last (ract (rprod (rows (m ((c : Thread nD τ).loc main_arg1)) (dec (m ((c : Thread nD τ).loc main_arg2)))) (wts (m ((c : Thread nD τ).loc main_arg0)) (m ((c : Thread nD τ).loc main_arg3))))
    (rprod (rows (m ((c : Thread nD τ).loc main_arg1)) (dec (m ((c : Thread nD τ).loc main_arg2)))) (wts (m ((c : Thread nD τ).loc main_arg0)) (m ((c : Thread nD τ).loc main_arg4)))))
    (wtd (m ((c : Thread nD τ).loc main_arg0)) (m ((c : Thread nD τ).loc main_arg5))) := by
  unfold res_main_v27 last ract rprod rows dec wts wtd
  rfl

/-- The last product at an index. -/
theorem last_apply (h : FVec Ideal S460x256x256 .f32) (d : FVec Ideal S460x256x1024 .f32) (s : Fin 117760) (n : Fin 1024) :
    @Eq EReal (last h d (ix2 s n)) (∑ e : Fin 256, h (ix3 (⟨s.val / 256, by omega⟩ : Fin 460) (⟨s.val % 256, by omega⟩ : Fin 256) e) * d (ix3 (⟨s.val / 256, by omega⟩ : Fin 460) e n)) := by
  pointwise [last]

/-- A first product at an index. -/
theorem prod_apply (x : FVec Ideal S460x256x1024 .f32) (g : FVec Ideal S460x1024x256 .f32) (b : Fin 460) (i e : Fin 256) :
    @Eq EReal (rprod x g (ix3 b i e)) (∑ k : Fin 1024, x (ix3 b i k) * g (ix3 b k e)) := by
  pointwise [rprod]

/-- The gated activation at an index. -/
theorem act_apply (x y : FVec Ideal S460x256x256 .f32) (b : Fin 460) (i e : Fin 256) :
    @Eq EReal (ract x y (ix3 b i e)) (act (x (ix3 b i e)) (y (ix3 b i e))) := by
  pointwise [ract, act]

/-- The lower halves. -/
theorem dec_lo (w : IVec S117760x512 32) (s : Fin 117760) (k : Fin 512) :
    @Eq EReal (dec w (ix2 s (⟨k.val, by omega⟩ : Fin 1024))) (lower (w (ix2 s k))) := by
  pointwise [dec, lower]

/-- The upper halves. -/
theorem dec_hi (w : IVec S117760x512 32) (s : Fin 117760) (k : Fin 512) :
    @Eq EReal (dec w (ix2 s (⟨512 + k.val, by omega⟩ : Fin 1024))) (upper (w (ix2 s k))) := by
  pointwise [dec, upper]

/-- The rows of a block at an index. -/
theorem rows_apply (nv : IVec S460 32) (x : FVec Ideal S117760x1024 .f32) (b : Fin 460) (i : Fin 256) (k : Fin 1024) :
    @Eq EReal (rows nv x (ix3 b i k)) (masked (nv (ix1 b)) i (x (ix2 (⟨256 * b.val + i.val, by omega⟩ : Fin 117760) k))) := by
  have h : @Eq EReal (rows nv x (ix3 b i k)) (Scalar.select (IntOp.cmpi .slt (BitVec.ofNat 32 i.val) (nv (ix1 b))) (x (ix2 (⟨b.val * 256 + i.val, by omega⟩ : Fin 117760) k)) (id (constant (F := Ideal) S_ FTy.f32 0#32) ix0)) := by
    pointwise [rows]
  refine h.trans ?_
  have hz : @Eq EReal (id (constant (F := Ideal) S_ FTy.f32 0#32) ix0) 0 := Ideal.ofBits_zero_f32
  rw [hz]
  unfold masked
  congr 3
  exact Fin.ext (by show b.val * 256 + i.val = 256 * b.val + i.val; omega)

/-- A slab of a stack taken by its number: where the start indices hold at `(b, 0)` a number that, read signed and clamped, is `q`, entry
    `(b, y, z)` of the result is the stack's entry `(q, y, z)`. -/
theorem gather_slab {α : Type} {N A B R : Nat} (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (b : Fin R) (y : Fin A) (z : Fin B) (q : Fin N)
    (hq : min (idx (ix2 b (0 : Fin 1))).toInt.toNat (N - 1) = q.val) :
    Host.gather { offsetDims := [1, 2], collapsedSliceDims := [0], operandBatchingDims := [], startIndicesBatchingDims := [],
                  startIndexMap := [0], indexVectorDim := 1, sliceSizes := ![1, A, B], wf := wf } x idx (ix3 b y z) = x (ix3 q y z) := by
  unfold Host.gather
  refine congrArg x (funext fun a => Fin.ext ?_)
  match a with
  | ⟨0, _⟩ =>
    refine Eq.trans ?_ hq
    show GatherDims.start _ (ix3 b y z) idx 0 + GatherDims.batchCoord _ (ix3 b y z) 0 + GatherDims.offCoord _ (ix3 b y z) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec 32 => min v.toInt.toNat (N - 1)) (congrArg idx (funext fun a' => Fin.ext ?_))
    match a' with
    | ⟨0, _⟩ => rfl
    | ⟨1, _⟩ => rfl
  | ⟨1, _⟩ =>
    show GatherDims.start _ (ix3 b y z) idx 1 + GatherDims.batchCoord _ (ix3 b y z) 1 + GatherDims.offCoord _ (ix3 b y z) 1 = y.val
    rw [GatherDims.batchCoord_eq_zero _ _ _ List.not_mem_nil]
    unfold GatherDims.start
    rw [dif_neg (fun h => absurd (List.mem_singleton.mp h) (by decide : (1 : Fin 3) ≠ 0))]
    simp only [Nat.zero_add]
    rfl
  | ⟨2, _⟩ =>
    show GatherDims.start _ (ix3 b y z) idx 2 + GatherDims.batchCoord _ (ix3 b y z) 2 + GatherDims.offCoord _ (ix3 b y z) 2 = z.val
    rw [GatherDims.batchCoord_eq_zero _ _ _ List.not_mem_nil]
    unfold GatherDims.start
    rw [dif_neg (fun h => absurd (List.mem_singleton.mp h) (by decide : (2 : Fin 3) ≠ 0))]
    simp only [Nat.zero_add]
    rfl

/-- The column of the blocks' experts. -/
theorem col_apply (be : IVec S460 32) (b : Fin 460) : broadcastInDim S460x1 ![0] bcast_S460_S460x1_0 be (ix2 b (0 : Fin 1)) = be (ix1 b) := by
  pointwise

/-- The stack of first weights without its unit axis. -/
theorem flat_g (g : FVec Ideal S1x64x1024x256 .f32) (q : Fin 64) (k : Fin 1024) (e : Fin 256) :
    @Eq EReal (shapeCast S64x1024x256 g shapeCasts_S1x64x1024x256_S64x1024x256 (ix3 q k e)) (g (ix4 0 q k e)) := by
  pointwise

/-- The stack of last weights without its unit axis. -/
theorem flat_d (g : FVec Ideal S1x64x256x1024 .f32) (q : Fin 64) (e : Fin 256) (n : Fin 1024) :
    @Eq EReal (shapeCast S64x256x1024 g shapeCasts_S1x64x256x1024_S64x256x1024 (ix3 q e n)) (g (ix4 0 q e n)) := by
  pointwise

/-- A block's first weights are its expert's. -/
theorem wts_apply (be : IVec S460 32) (g : FVec Ideal S1x64x1024x256 .f32) (b : Fin 460) (h : (be (ix1 b)).toNat < 64) (k : Fin 1024) (e : Fin 256) :
    @Eq EReal (wts be g (ix3 b k e)) (g (ix4 0 (expert (be (ix1 b))) k e)) := by
  refine (gather_slab _ _ _ b k e (expert (be (ix1 b))) ?_).trans (flat_g g _ k e)
  rw [col_apply]
  refine (clamp_eq _ h).trans ?_
  show _ = min (be (ix1 b)).toNat 63
  omega

/-- A block's last weights are its expert's. -/
theorem wtd_apply (be : IVec S460 32) (g : FVec Ideal S1x64x256x1024 .f32) (b : Fin 460) (h : (be (ix1 b)).toNat < 64) (e : Fin 256) (n : Fin 1024) :
    @Eq EReal (wtd be g (ix3 b e n)) (g (ix4 0 (expert (be (ix1 b))) e n)) := by
  refine (gather_slab _ _ _ b e n (expert (be (ix1 b))) ?_).trans (flat_d g _ e n)
  rw [col_apply]
  refine (clamp_eq _ h).trans ?_
  show _ = min (be (ix1 b)).toNat 63
  omega

/-- The reference's result is the formula of its arguments. -/
theorem res_eq (h : ∀ b : Fin 460, ((m ((c : Thread nD τ).loc main_arg0) : S460.Idx → BitVec 32) (ix1 b)).toNat < 64) (s : Fin 117760) (n : Fin 1024) :
    @Eq EReal (res_main_v27 (F := Ideal) m c (ix2 s n))
      (out (inp (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        ⟨s.val / 256, by omega⟩ ⟨s.val % 256, by omega⟩ n) := by
  rw [res_parts]
  refine (last_apply _ _ s n).trans ?_
  unfold out
  refine Finset.sum_congr rfl fun e _ => ?_
  refine congrArg₂ (fun a b : EReal => a * b) ?_ (wtd_apply _ _ _ (h _) e n)
  refine (act_apply _ _ _ _ e).trans ?_
  refine congrArg₂ act ?_ ?_
  all_goals
    refine (prod_apply _ _ _ _ e).trans ?_
    refine Eq.trans ?_ (prod_eq _ _ _ _ e (fun k => rows (m ((c : Thread nD τ).loc main_arg1)) (dec (m ((c : Thread nD τ).loc main_arg2))) (ix3 (⟨s.val / 256, by omega⟩ : Fin 460) (⟨s.val % 256, by omega⟩ : Fin 256) k)) ?_ ?_)
    · exact Finset.sum_congr rfl fun k _ => congrArg₂ (fun a b : EReal => a * b) rfl (wts_apply _ _ _ (h _) k e)
    · exact fun k => (rows_apply _ _ _ _ _).trans (congrArg _ (dec_lo _ _ k))
    · exact fun k => (rows_apply _ _ _ _ _).trans (congrArg _ (dec_hi _ _ k))

end Cert.Reference3Ideal.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_experts_exist
public import proofs.«01_k».proof.Proof.KValue
public import proofs.«01_k».proof.Proof.RefResult
public import proofs.«01_k».proof.Proof.PValue
public import proofs.«01_k».proof.Proof.PRef
public import proofs.«01_k».proof.Proof.EOk
public import proofs.«01_k».proof.Proof.EOkIdeal
public import proofs.«01_k».proof.Proof.EValue
public import proofs.«01_k».proof.Proof.ERef
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.ShloMosaic.TcCoe Idealize.SL.Sem

/-- The kernel at the machine's numbers: it ends, with its arguments as they were and every semaphore at zero. -/
theorem frame_p : Cert.quiescent_Kernel := fun m ρ _ => Cert.Kernel.Gen.frame m ρ

/-- The kernel at the real numbers. -/
theorem frame_pi : Cert.quiescent_KernelIdeal := fun m ρ _ => Cert.KernelIdeal.Gen.frame m ρ

/-- The reference at the real numbers. It has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Front.run m ρ)

/-- The one named constant. -/
theorem preserves : Cert.preserves_Kernel_KernelIdeal :=
  IdealRules.named_const.statement Cert.KernelIdeal.κ "tiny" .f32 0x00800000#32 ⊥ rfl

/-- The kernel's arrays are the reference's, from equal arguments. -/
theorem algebraic : Cert.algebraic_KernelIdeal_ReferenceIdeal := by
  intro m ρ m' ρ' _ hagree
  have hI : ∀ c, Cert.ReferenceIdeal.Front.inp0 m' c = Cert.KernelIdeal.Front.inp m c := fun c => by
    obtain ⟨h0, h1, h2, h3, h4, h5, h6, h7, h8, h9, h10, h11, h12⟩ := hagree c
    unfold Cert.ReferenceIdeal.Front.inp0 Cert.ReferenceIdeal.Front.inp Cert.KernelIdeal.Front.inp
    congr 1
    · exact funext fun b => funext fun t => funext fun k => congrFun h0 (ix3 b t k)
    · exact funext fun b => funext fun k => congrFun h1 (ix3 b 0 k)
    · exact funext fun b => funext fun k => congrFun h2 (ix3 b 0 k)
    · exact funext fun k => congrFun h3 (ix2 0 k)
    · exact funext fun k => funext fun e => congrFun h4 (ix3 0 k e)
    · exact funext fun j => funext fun n => congrFun h5 (ix3 0 j n)
    · exact funext fun n => congrFun h6 (ix2 0 n)
    · exact funext fun a => funext fun i => funext fun j => congrFun h7 (ix4 0 a i j)
    · exact funext fun n => congrFun h8 (ix2 0 n)
    · exact funext fun a => funext fun i => funext fun j => congrFun h9 (ix4 0 a i j)
    · exact funext fun n => congrFun h10 (ix2 0 n)
    · exact funext fun n => congrFun h11 (ix2 0 n)
    · exact funext fun j => congrFun h12 (ix2 0 j)
  refine ⟨fun c => Cert.KernelIdeal.Value.G13 m c, fun c => Cert.KernelIdeal.Value.G14 m c, fun c => Cert.KernelIdeal.Value.G15 m c,
    fun c => Cert.KernelIdeal.Value.G16 m c, fun c => Cert.KernelIdeal.Value.G17 m c, fun c => Cert.KernelIdeal.Value.G18 m c,
    Cert.KernelIdeal.Value.run m ρ, ?_⟩
  refine (θ_run Cert.ReferenceIdeal.defs _ _).mono (fun r h c => ?_) (Cert.ReferenceIdeal.Front.run m' ρ')
  obtain ⟨⟨r0, r1, r2, r3, r4, r5⟩, hargs⟩ := h c
  refine ⟨r0.trans ?_, r1.trans ?_, r2.trans ?_, r3.trans ?_, r4.trans ?_, r5.trans ?_, hargs⟩
  · funext i
    rw [eq_ix3 i]
    refine (Cert.ReferenceIdeal.Front.fin_outR m' c _ _ _).trans ?_
    rw [hI]
    exact (Cert.KernelIdeal.Front.G13_eq m c _ _ _).symm
  · funext i
    rw [eq_ix3 i]
    refine (Cert.ReferenceIdeal.Front.fin_outQ m' c _ _ _).trans ?_
    rw [hI]
    exact (Cert.KernelIdeal.Front.G14_eq m c _ _ _).symm
  · funext i
    rw [eq_ix3 i]
    refine (Cert.ReferenceIdeal.Front.fin_outK m' c _ _ _).trans ?_
    rw [hI]
    exact (Cert.KernelIdeal.Front.G15_eq m c _ _ _).symm
  · funext i
    rw [eq_ix3 i]
    refine (Cert.ReferenceIdeal.Front.fin_outV m' c _ _ _).trans ?_
    rw [hI]
    exact (Cert.KernelIdeal.Front.G16_eq m c _ _ _).symm
  · funext i
    rw [eq_ix3 i]
    refine (Cert.ReferenceIdeal.Front.fin_outC m' c _ _ _).trans ?_
    rw [hI]
    exact (Cert.KernelIdeal.Front.G17_eq m c _ _ _).symm
  · funext i
    rw [eq_ix3 i, show i 1 = (0 : Fin 1) from @Subsingleton.elim (Fin 1) _ _ _]
    refine (Cert.ReferenceIdeal.Front.fin_outH m' c _ _).trans ?_
    rw [hI]
    exact (Cert.KernelIdeal.Front.G18_eq m c _ _).symm

/-! ## The second call -/

/-- The kernel at the machine's numbers: it ends, with its arguments as they were and every semaphore at zero. -/
theorem frame_p2 : Cert.quiescent_Kernel2 := fun m ρ _ => Cert.Kernel2.Gen.frame m ρ

/-- The kernel at the real numbers. -/
theorem frame_pi2 : Cert.quiescent_Kernel2Ideal := fun m ρ _ => Cert.Kernel2Ideal.Gen.frame m ρ

/-- The reference at the real numbers. It has no semaphore. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- The words that hold two half-width numbers each. -/
theorem preserves2 : Cert.preserves_Kernel2_Kernel2Ideal :=
  ⟨IdealRules.bf16_pair.bufferStatement _ _, IdealRules.bf16_pair.bufferStatement _ _, IdealRules.bf16_pair.statement _ _,
    IdealRules.bf16_pack.statement _⟩

/-- The kernel's new stream is the reference's, from equal arguments. -/
theorem algebraic2 : Cert.algebraic_Kernel2Ideal_Reference2Ideal := by
  intro m ρ m' ρ' _ hagree
  have hI : ∀ c, Cert.Reference2Ideal.Post.inp m' c = Cert.Kernel2Ideal.Post.inp m c := fun c => by
    obtain ⟨h0, h1, h2, h3, -, -, -, h7, -, -⟩ := hagree c
    unfold Cert.Reference2Ideal.Post.inp Cert.Kernel2Ideal.Post.inp
    congr 1
    · exact funext fun b => funext fun t => funext fun k => congrFun h0 (ix3 b t k)
    · exact funext fun b => funext fun t => funext fun k => congrFun h1 (ix3 b t k)
    · exact funext fun b => funext fun t => funext fun k => congrFun h2 (ix3 b t k)
    · exact funext fun b => funext fun k => congrFun h3 (ix3 b 0 k)
    · exact funext fun k => funext fun n => congrFun h7 (ix3 0 k n)
  refine ⟨fun c => Cert.Kernel2Ideal.Value.G12 m c, ?_, ?_⟩
  · refine (θ_run Cert.Kernel2Ideal.defs _ _).mono (fun r h c => ?_) (Cert.Kernel2Ideal.Value.run m ρ)
    obtain ⟨h0, -, -, -, -, -, hargs⟩ := h c
    exact ⟨h0, hargs⟩
  · refine (θ_run Cert.Reference2Ideal.defs _ _).mono (fun r h c => ?_) (Cert.Reference2Ideal.Value.run m' ρ')
    obtain ⟨r0, hargs⟩ := h c
    refine ⟨r0.trans ?_, hargs⟩
    funext i
    rw [eq_ix2 i]
    refine (Cert.Reference2Ideal.Post.res_eq m' c _ _).trans ?_
    rw [hI]
    exact (Cert.Kernel2Ideal.Post.G12_eq m c _ _).symm

/-! ## The third call -/

/-- The kernel at the machine's numbers, where every block names an expert: it ends, with its arguments as they were and every semaphore at zero. -/
theorem frame_p3 : Cert.quiescent_Kernel3 := fun m ρ h => Cert.Kernel3.Gen.frame m ρ (Cert.Kernel3.Experts.ok_of_pre m h)

/-- The kernel at the real numbers likewise. -/
theorem frame_pi3 : Cert.quiescent_Kernel3Ideal := fun m ρ h => Cert.Kernel3Ideal.Gen.frame m ρ (Cert.Kernel3Ideal.Experts.ok_of_pre m h)

/-- The reference at the real numbers, whatever the experts. It has no semaphore. -/
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-- The same where every block names an expert. -/
theorem frame_ri3_pre : Cert.quiescent_Reference3Ideal_pre_experts_exist := fun m ρ _ => frame_ri3 m ρ trivial

/-- No operation is replaced. -/
theorem preserves3 : Cert.preserves_Kernel3_Kernel3Ideal := trivial

/-- The kernel's rows are the reference's, from equal arguments where every block names an expert. -/
theorem algebraic3 : Cert.algebraic_Kernel3Ideal_Reference3Ideal := by
  intro m ρ m' ρ' hpre hagree
  have hlt := Cert.Kernel3Ideal.Experts.tbl0_lt m hpre
  refine ⟨fun c => Cert.Kernel3Ideal.Experts.G m c, Cert.Kernel3Ideal.Experts.run m ρ (Cert.Kernel3Ideal.Experts.ok_of_pre m hpre) hlt, ?_⟩
  refine (θ_run Cert.Reference3Ideal.defs _ _).mono (fun r h c => ?_) (Cert.Reference3Ideal.Value.run m' ρ')
  obtain ⟨r0, hargs⟩ := h c
  refine ⟨r0.trans ?_, hargs⟩
  obtain ⟨h0, h1, h2, h3, h4, h5⟩ := hagree c
  funext i
  rw [eq_ix2 i]
  refine (Cert.Reference3Ideal.Experts.res_eq m' c (fun b => ?_) _ _).trans ?_
  · rw [h0]
    have e := hlt (ix1 b)
    rw [Cert.Kernel3Ideal.Experts.tbl0] at e
    obtain rfl : c = 0 := Subsingleton.elim _ _
    exact e
  · rw [h0, h1, h2, h3, h4, h5]
    rfl

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_experts_exist.Gen.facts,
  frame_p, frame_pi, frame_ri, frame_p2, frame_pi2, frame_ri2, frame_p3, frame_pi3, frame_ri3, frame_ri3_pre,
  preserves, algebraic, preserves2, algebraic2, preserves3, algebraic3⟩

end Cert.Proof

end
